-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v0) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)) (v2 : (c : Dev Cert.GateUpIdeal.nD) → Buf (Elt Ideal) ((c.tc : Thread Cert.GateUpIdeal.nD Cert.GateUpIdeal.τ).loc Cert.GateUpIdeal.main_v0_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_v0_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v0_0) = v0 c
          ∧ r.2.mem ((c.tc : Thread Cert.GateUpRefIdeal.nD Cert.GateUpRefIdeal.τ).loc Cert.GateUpRefIdeal.main_v0_1) = v1 c
          ∧ r.2.mem ((c.tc : Thread Cert.GateUpRefIdeal.nD Cert.GateUpRefIdeal.τ).loc Cert.GateUpRefIdeal.main_v0_2) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def Claim : Prop :=
  ∃ (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hGateUp : Cert.GateUp.Facts) (hGateUpIdeal : Cert.GateUpIdeal.Facts) (hGateUpRefIdeal : Cert.GateUpRefIdeal.Facts),
    quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_GateUp_GateUpIdeal
    ∧ algebraic_GateUpIdeal_GateUpRefIdeal (hGateUpIdeal := hGateUpIdeal) (hGateUpRefIdeal := hGateUpRefIdeal)
-- ==== Down.lean ====
abbrev S1920x8704 : Shape := ⟨2, ![1920, 8704]⟩
abbrev S8704x5120 : Shape := ⟨2, ![8704, 5120]⟩
abbrev S68x40 : Shape := ⟨2, ![68, 40]⟩
abbrev S1920x5120 : Shape := ⟨2, ![1920, 5120]⟩
abbrev S8704x256 : Shape := ⟨2, ![8704, 256]⟩
abbrev S1920x256 : Shape := ⟨2, ![1920, 256]⟩
abbrev S1x1 : Shape := ⟨2, ![1, 1]⟩
abbrev S128x128 : Shape := ⟨2, ![128, 128]⟩
abbrev S480x8704 : Shape := ⟨2, ![480, 8704]⟩
abbrev S480x256 : Shape := ⟨2, ![480, 256]⟩

abbrev nBuf : Space → Nat
  | .hbm => 5
  | .vmem => 8
  | .smem => 1
  | _ => 0

abbrev bufTy : (tb : Table) → Fin (tcTables nBuf tb) → BufTy
  | .hbm, ⟨0, _⟩ => ⟨S1920x8704, .bf16⟩
  | .hbm, ⟨1, _⟩ => ⟨S8704x5120, .fp8e4m3⟩
  | .hbm, ⟨2, _⟩ => ⟨S68x40, .f32⟩
  | .hbm, ⟨3, _⟩ => ⟨S1920x5120, .f32⟩
  | .hbm, ⟨4, _⟩ => ⟨S1920x5120, .bf16⟩
  | .local _ .vmem, ⟨0, _⟩ => ⟨S1920x8704, .bf16⟩
  | .local _ .vmem, ⟨1, _⟩ => ⟨S8704x256, .fp8e4m3⟩
  | .local _ .vmem, ⟨2, _⟩ => ⟨S8704x256, .fp8e4m3⟩
  | .local _ .vmem, ⟨3, _⟩ => ⟨S1920x256, .f32⟩
  | .local _ .vmem, ⟨4, _⟩ => ⟨S1920x256, .f32⟩
  | .local _ .vmem, ⟨5, _⟩ => ⟨S1920x256, .bf16⟩
  | .local _ .vmem, ⟨6, _⟩ => ⟨S1920x256, .bf16⟩
  | .local _ .vmem, ⟨7, _⟩ => ⟨S8704x256, .bf16⟩
  | .local _ .smem, ⟨0, _⟩ => ⟨S68x40, .f32⟩
  | _, _ => ⟨S1920x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg2_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def k0_off1 (i : grid0.Coords) (c0_i32 : BitVec 32) : Fin 2 → Nat :=
  let c0 : Index := 0#32
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  ![0, v2.toNat]
def k0_off2 (i : grid0.Coords) (c0_i32_8 : BitVec 32) : Fin 2 → Nat :=
  let c1 : Index := 1#32
  let arg0 : BitVec 32 := BitVec.ofNat 32 (i 0).val
  let c2_i32 : BitVec 32 := 2#32
  let v0 : BitVec 32 := Scalar.muli arg0 c2_i32
  let v23 : BitVec 32 := Scalar.addi v0 c0_i32_8
  let v24 : Index := Scalar.indexCast v23
  ![1, v24.toNat]
def k0_off3 (i : grid0.Coords) (c0_i32_19 : BitVec 32) : Fin 2 → Nat :=
  let c2 : Index := 2#32
  let arg0 : BitVec 32 := BitVec.ofNat 32 (i 0).val
  let c2_i32 : BitVec 32 := 2#32
  let v0 : BitVec 32 := Scalar.muli arg0 c2_i32
  let v45 : BitVec 32 := Scalar.addi v0 c0_i32_19
  let v46 : Index := Scalar.indexCast v45
  ![2, v46.toNat]
def k0_off4 (i : grid0.Coords) (c0_i32_29 : BitVec 32) : Fin 2 → Nat :=
  let c3 : Index := 3#32
  let arg0 : BitVec 32 := BitVec.ofNat 32 (i 0).val
  let c2_i32 : BitVec 32 := 2#32
  let v0 : BitVec 32 := Scalar.muli arg0 c2_i32
  let v67 : BitVec 32 := Scalar.addi v0 c0_i32_29
  let v68 : Index := Scalar.indexCast v67
  ![3, v68.toNat]
def k0_off5 (i : grid0.Coords) (c0_i32_39 : BitVec 32) : Fin 2 → Nat :=
  let c4 : Index := 4#32
  let arg0 : BitVec 32 := BitVec.ofNat 32 (i 0).val
  let c2_i32 : BitVec 32 := 2#32
  let v0 : BitVec 32 := Scalar.muli arg0 c2_i32
  let v89 : BitVec 32 := Scalar.addi v0 c0_i32_39
  let v90 : Index := Scalar.indexCast v89
  ![4, v90.toNat]
def k0_off6 (i : grid0.Coords) (c0_i32_49 : BitVec 32) : Fin 2 → Nat :=
  let c5 : Index := 5#32
  let arg0 : BitVec 32 := BitVec.ofNat 32 (i 0).val
  let c2_i32 : BitVec 32 := 2#32
  let v0 : BitVec 32 := Scalar.muli arg0 c2_i32
  let v111 : BitVec 32 := Scalar.addi v0 c0_i32_49
  let v112 : Index := Scalar.indexCast v111
  ![5, v112.toNat]
def k0_off7 (i : grid0.Coords) (c0_i32_59 : BitVec 32) : Fin 2 → Nat :=
  let c6 : Index := 6#32
  let arg0 : BitVec 32 := BitVec.ofNat 32 (i 0).val
  let c2_i32 : BitVec 32 := 2#32
  let v0 : BitVec 32 := Scalar.muli arg0 c2_i32
  let v133 : BitVec 32 := Scalar.addi v0 c0_i32_59
  let v134 : Index := Scalar.indexCast v133
  ![6, v134.toNat]
def k0_off8 (i : grid0.Coords) (c0_i32_69 : BitVec 32) : Fin 2 → Nat :=
  let c7 : Index := 7#32
  let arg0 : BitVec 32 := BitVec.ofNat 32 (i 0).val
  let c2_i32 : BitVec 32 := 2#32
  let v0 : BitVec 32 := Scalar.muli arg0 c2_i32
  let v155 : BitVec 32 := Scalar.addi v0 c0_i32_69
  let v156 : Index := Scalar.indexCast v155
  ![7, v156.toNat]
def k0_off9 (i : grid0.Coords) (c0_i32_79 : BitVec 32) : Fin 2 → Nat :=
  let c8 : Index := 8#32
  let arg0 : BitVec 32 := BitVec.ofNat 32 (i 0).val
  let c2_i32 : BitVec 32 := 2#32
  let v0 : BitVec 32 := Scalar.muli arg0 c2_i32
  let v177 : BitVec 32 := Scalar.addi v0 c0_i32_79
  let v178 : Index := Scalar.indexCast v177
  ![8, v178.toNat]
def k0_off10 (i : grid0.Coords) (c0_i32_89 : BitVec 32) : Fin 2 → Nat :=
  let c9 : Index := 9#32
  let arg0 : BitVec 32 := BitVec.ofNat 32 (i 0).val
  let c2_i32 : BitVec 32 := 2#32
  let v0 : BitVec 32 := Scalar.muli arg0 c2_i32
  let v199 : BitVec 32 := Scalar.addi v0 c0_i32_89
  let v200 : Index := Scalar.indexCast v199
  ![9, v200.toNat]
def k0_off11 (i : grid0.Coords) (c0_i32_99 : BitVec 32) : Fin 2 → Nat :=
  let c10 : Index := 10#32
  let arg0 : BitVec 32 := BitVec.ofNat 32 (i 0).val
  let c2_i32 : BitVec 32 := 2#32
  let v0 : BitVec 32 := Scalar.muli arg0 c2_i32
  let v221 : BitVec 32 := Scalar.addi v0 c0_i32_99
  let v222 : Index := Scalar.indexCast v221
  ![10, v222.toNat]
def k0_off12 (i : grid0.Coords) (c0_i32_109 : BitVec 32) : Fin 2 → Nat :=
  let c11 : Index := 11#32
  let arg0 : BitVec 32 := BitVec.ofNat 32 (i 0).val
  let c2_i32 : BitVec 32 := 2#32
  let v0 : BitVec 32 := Scalar.muli arg0 c2_i32
  let v243 : BitVec 32 := Scalar.addi v0 c0_i32_109
  let v244 : Index := Scalar.indexCast v243
  ![11, v244.toNat]
def k0_off13 (i : grid0.Coords) (c0_i32_119 : BitVec 32) : Fin 2 → Nat :=
  let c12 : Index := 12#32
  let arg0 : BitVec 32 := BitVec.ofNat 32 (i 0).val
  let c2_i32 : BitVec 32 := 2#32
  let v0 : BitVec 32 := Scalar.muli arg0 c2_i32
  let v265 : BitVec 32 := Scalar.addi v0 c0_i32_119
  let v266 : Index := Scalar.indexCast v265
  ![12, v266.toNat]
def k0_off14 (i : grid0.Coords) (c0_i32_129 : BitVec 32) : Fin 2 → Nat :=
  let c13 : Index := 13#32
  let arg0 : BitVec 32 := BitVec.ofNat 32 (i 0).val
  let c2_i32 : BitVec 32 := 2#32
  let v0 : BitVec 32 := Scalar.muli arg0 c2_i32
  let v287 : BitVec 32 := Scalar.addi v0 c0_i32_129
  let v288 : Index := Scalar.indexCast v287
  ![13, v288.toNat]
def k0_off15 (i : grid0.Coords) (c0_i32_139 : BitVec 32) : Fin 2 → Nat :=
  let c14 : Index := 14#32
  let arg0 : BitVec 32 := BitVec.ofNat 32 (i 0).val
  let c2_i32 : BitVec 32 := 2#32
  let v0 : BitVec 32 := Scalar.muli arg0 c2_i32
  let v309 : BitVec 32 := Scalar.addi v0 c0_i32_139
  let v310 : Index := Scalar.indexCast v309
  ![14, v310.toNat]
def k0_off16 (i : grid0.Coords) (c0_i32_149 : BitVec 32) : Fin 2 → Nat :=
  let c15 : Index := 15#32
  let arg0 : BitVec 32 := BitVec.ofNat 32 (i 0).val
  let c2_i32 : BitVec 32 := 2#32
  let v0 : BitVec 32 := Scalar.muli arg0 c2_i32
  let v331 : BitVec 32 := Scalar.addi v0 c0_i32_149
  let v332 : Index := Scalar.indexCast v331
  ![15, v332.toNat]
def k0_off17 (i : grid0.Coords) (c0_i32_159 : BitVec 32) : Fin 2 → Nat :=
  let c16 : Index := 16#32
  let arg0 : BitVec 32 := BitVec.ofNat 32 (i 0).val
  let c2_i32 : BitVec 32 := 2#32
  let v0 : BitVec 32 := Scalar.muli arg0 c2_i32
  let v353 : BitVec 32 := Scalar.addi v0 c0_i32_159
  let v354 : Index := Scalar.indexCast v353
  ![16, v354.toNat]
def k0_off18 (i : grid0.Coords) (c0_i32_169 : BitVec 32) : Fin 2 → Nat :=
  let c17 : Index := 17#32
  let arg0 : BitVec 32 := BitVec.ofNat 32 (i 0).val
  let c2_i32 : BitVec 32 := 2#32
  let v0 : BitVec 32 := Scalar.muli arg0 c2_i32
  let v375 : BitVec 32 := Scalar.addi v0 c0_i32_169
  let v376 : Index := Scalar.indexCast v375
  ![17, v376.toNat]
def k0_off19 (i : grid0.Coords) (c0_i32_179 : BitVec 32) : Fin 2 → Nat :=
  let c18 : Index := 18#32
  let arg0 : BitVec 32 := BitVec.ofNat 32 (i 0).val
  let c2_i32 : BitVec 32 := 2#32
  let v0 : BitVec 32 := Scalar.muli arg0 c2_i32
  let v397 : BitVec 32 := Scalar.addi v0 c0_i32_179
  let v398 : Index := Scalar.indexCast v397
  ![18, v398.toNat]
def k0_off20 (i : grid0.Coords) (c0_i32_189 : BitVec 32) : Fin 2 → Nat :=
  let c19 : Index := 19#32
  let arg0 : BitVec 32 := BitVec.ofNat 32 (i 0).val
  let c2_i32 : BitVec 32 := 2#32
  let v0 : BitVec 32 := Scalar.muli arg0 c2_i32
  let v419 : BitVec 32 := Scalar.addi v0 c0_i32_189
  let v420 : Index := Scalar.indexCast v419
  ![19, v420.toNat]
def k0_off21 (i : grid0.Coords) (c0_i32_199 : BitVec 32) : Fin 2 → Nat :=
  let c20 : Index := 20#32
  let arg0 : BitVec 32 := BitVec.ofNat 32 (i 0).val
  let c2_i32 : BitVec 32 := 2#32
  let v0 : BitVec 32 := Scalar.muli arg0 c2_i32
  let v441 : BitVec 32 := Scalar.addi v0 c0_i32_199
  let v442 : Index := Scalar.indexCast v441
  ![20, v442.toNat]
def k0_off22 (i : grid0.Coords) (c0_i32_209 : BitVec 32) : Fin 2 → Nat :=
  let c21 : Index := 21#32
  let arg0 : BitVec 32 := BitVec.ofNat 32 (i 0).val
  let c2_i32 : BitVec 32 := 2#32
  let v0 : BitVec 32 := Scalar.muli arg0 c2_i32
  let v463 : BitVec 32 := Scalar.addi v0 c0_i32_209
  let v464 : Index := Scalar.indexCast v463
  ![21, v464.toNat]
def k0_off23 (i : grid0.Coords) (c0_i32_219 : BitVec 32) : Fin 2 → Nat :=
  let c22 : Index := 22#32
  let arg0 : BitVec 32 := BitVec.ofNat 32 (i 0).val
  let c2_i32 : BitVec 32 := 2#32
  let v0 : BitVec 32 := Scalar.muli arg0 c2_i32
  let v485 : BitVec 32 := Scalar.addi v0 c0_i32_219
  let v486 : Index := Scalar.indexCast v485
  ![22, v486.toNat]
def k0_off24 (i : grid0.Coords) (c0_i32_229 : BitVec 32) : Fin 2 → Nat :=
  let c23 : Index := 23#32
  let arg0 : BitVec 32 := BitVec.ofNat 32 (i 0).val
  let c2_i32 : BitVec 32 := 2#32
  let v0 : BitVec 32 := Scalar.muli arg0 c2_i32
  let v507 : BitVec 32 := Scalar.addi v0 c0_i32_229
  let v508 : Index := Scalar.indexCast v507
  ![23, v508.toNat]
def k0_off25 (i : grid0.Coords) (c0_i32_239 : BitVec 32) : Fin 2 → Nat :=
  let c24 : Index := 24#32
  let arg0 : BitVec 32 := BitVec.ofNat 32 (i 0).val
  let c2_i32 : BitVec 32 := 2#32
  let v0 : BitVec 32 := Scalar.muli arg0 c2_i32
  let v529 : BitVec 32 := Scalar.addi v0 c0_i32_239
  let v530 : Index := Scalar.indexCast v529
  ![24, v530.toNat]
def k0_off26 (i : grid0.Coords) (c0_i32_249 : BitVec 32) : Fin 2 → Nat :=
  let c25 : Index := 25#32
  let arg0 : BitVec 32 := BitVec.ofNat 32 (i 0).val
  let c2_i32 : BitVec 32 := 2#32
  let v0 : BitVec 32 := Scalar.muli arg0 c2_i32
  let v551 : BitVec 32 := Scalar.addi v0 c0_i32_249
  let v552 : Index := Scalar.indexCast v551
  ![25, v552.toNat]
def k0_off27 (i : grid0.Coords) (c0_i32_259 : BitVec 32) : Fin 2 → Nat :=
  let c26 : Index := 26#32
  let arg0 : BitVec 32 := BitVec.ofNat 32 (i 0).val
  let c2_i32 : BitVec 32 := 2#32
  let v0 : BitVec 32 := Scalar.muli arg0 c2_i32
  let v573 : BitVec 32 := Scalar.addi v0 c0_i32_259
  let v574 : Index := Scalar.indexCast v573
  ![26, v574.toNat]
def k0_off28 (i : grid0.Coords) (c0_i32_269 : BitVec 32) : Fin 2 → Nat :=
  let c27 : Index := 27#32
  let arg0 : BitVec 32 := BitVec.ofNat 32 (i 0).val
  let c2_i32 : BitVec 32 := 2#32
  let v0 : BitVec 32 := Scalar.muli arg0 c2_i32
  let v595 : BitVec 32 := Scalar.addi v0 c0_i32_269
  let v596 : Index := Scalar.indexCast v595
  ![27, v596.toNat]
def k0_off29 (i : grid0.Coords) (c0_i32_279 : BitVec 32) : Fin 2 → Nat :=
  let c28 : Index := 28#32
  let arg0 : BitVec 32 := BitVec.ofNat 32 (i 0).val
  let c2_i32 : BitVec 32 := 2#32
  let v0 : BitVec 32 := Scalar.muli arg0 c2_i32
  let v617 : BitVec 32 := Scalar.addi v0 c0_i32_279
  let v618 : Index := Scalar.indexCast v617
  ![28, v618.toNat]
def k0_off30 (i : grid0.Coords) (c0_i32_289 : BitVec 32) : Fin 2 → Nat :=
  let c29 : Index := 29#32
  let arg0 : BitVec 32 := BitVec.ofNat 32 (i 0).val
  let c2_i32 : BitVec 32 := 2#32
  let v0 : BitVec 32 := Scalar.muli arg0 c2_i32
  let v639 : BitVec 32 := Scalar.addi v0 c0_i32_289
  let v640 : Index := Scalar.indexCast v639
  ![29, v640.toNat]
def k0_off31 (i : grid0.Coords) (c0_i32_299 : BitVec 32) : Fin 2 → Nat :=
  let c30 : Index := 30#32
  let arg0 : BitVec 32 := BitVec.ofNat 32 (i 0).val
  let c2_i32 : BitVec 32 := 2#32
  let v0 : BitVec 32 := Scalar.muli arg0 c2_i32
  let v661 : BitVec 32 := Scalar.addi v0 c0_i32_299
  let v662 : Index := Scalar.indexCast v661
  ![30, v662.toNat]
def k0_off32 (i : grid0.Coords) (c0_i32_309 : BitVec 32) : Fin 2 → Nat :=
  let c31 : Index := 31#32
  let arg0 : BitVec 32 := BitVec.ofNat 32 (i 0).val
  let c2_i32 : BitVec 32 := 2#32
  let v0 : BitVec 32 := Scalar.muli arg0 c2_i32
  let v683 : BitVec 32 := Scalar.addi v0 c0_i32_309
  let v684 : Index := Scalar.indexCast v683
  ![31, v684.toNat]
def k0_off33 (i : grid0.Coords) (c0_i32_319 : BitVec 32) : Fin 2 → Nat :=
  let c32 : Index := 32#32
  let arg0 : BitVec 32 := BitVec.ofNat 32 (i 0).val
  let c2_i32 : BitVec 32 := 2#32
  let v0 : BitVec 32 := Scalar.muli arg0 c2_i32
  let v705 : BitVec 32 := Scalar.addi v0 c0_i32_319
  let v706 : Index := Scalar.indexCast v705
  ![32, v706.toNat]
def k0_off34 (i : grid0.Coords) (c0_i32_329 : BitVec 32) : Fin 2 → Nat :=
  let c33 : Index := 33#32
  let arg0 : BitVec 32 := BitVec.ofNat 32 (i 0).val
  let c2_i32 : BitVec 32 := 2#32
  let v0 : BitVec 32 := Scalar.muli arg0 c2_i32
  let v727 : BitVec 32 := Scalar.addi v0 c0_i32_329
  let v728 : Index := Scalar.indexCast v727
  ![33, v728.toNat]
def k0_off35 (i : grid0.Coords) (c0_i32_339 : BitVec 32) : Fin 2 → Nat :=
  let c34 : Index := 34#32
  let arg0 : BitVec 32 := BitVec.ofNat 32 (i 0).val
  let c2_i32 : BitVec 32 := 2#32
  let v0 : BitVec 32 := Scalar.muli arg0 c2_i32
  let v749 : BitVec 32 := Scalar.addi v0 c0_i32_339
  let v750 : Index := Scalar.indexCast v749
  ![34, v750.toNat]
def k0_off36 (i : grid0.Coords) (c0_i32_349 : BitVec 32) : Fin 2 → Nat :=
  let c35 : Index := 35#32
  let arg0 : BitVec 32 := BitVec.ofNat 32 (i 0).val
  let c2_i32 : BitVec 32 := 2#32
  let v0 : BitVec 32 := Scalar.muli arg0 c2_i32
  let v771 : BitVec 32 := Scalar.addi v0 c0_i32_349
  let v772 : Index := Scalar.indexCast v771
  ![35, v772.toNat]
def k0_off37 (i : grid0.Coords) (c0_i32_359 : BitVec 32) : Fin 2 → Nat :=
  let c36 : Index := 36#32
  let arg0 : BitVec 32 := BitVec.ofNat 32 (i 0).val
  let c2_i32 : BitVec 32 := 2#32
  let v0 : BitVec 32 := Scalar.muli arg0 c2_i32
  let v793 : BitVec 32 := Scalar.addi v0 c0_i32_359
  let v794 : Index := Scalar.indexCast v793
  ![36, v794.toNat]
def k0_off38 (i : grid0.Coords) (c0_i32_369 : BitVec 32) : Fin 2 → Nat :=
  let c37 : Index := 37#32
  let arg0 : BitVec 32 := BitVec.ofNat 32 (i 0).val
  let c2_i32 : BitVec 32 := 2#32
  let v0 : BitVec 32 := Scalar.muli arg0 c2_i32
  let v815 : BitVec 32 := Scalar.addi v0 c0_i32_369
  let v816 : Index := Scalar.indexCast v815
  ![37, v816.toNat]
def k0_off39 (i : grid0.Coords) (c0_i32_379 : BitVec 32) : Fin 2 → Nat :=
  let c38 : Index := 38#32
  let arg0 : BitVec 32 := BitVec.ofNat 32 (i 0).val
  let c2_i32 : BitVec 32 := 2#32
  let v0 : BitVec 32 := Scalar.muli arg0 c2_i32
  let v837 : BitVec 32 := Scalar.addi v0 c0_i32_379
  let v838 : Index := Scalar.indexCast v837
  ![38, v838.toNat]
def k0_off40 (i : grid0.Coords) (c0_i32_389 : BitVec 32) : Fin 2 → Nat :=
  let c39 : Index := 39#32
  let arg0 : BitVec 32 := BitVec.ofNat 32 (i 0).val
  let c2_i32 : BitVec 32 := 2#32
  let v0 : BitVec 32 := Scalar.muli arg0 c2_i32
  let v859 : BitVec 32 := Scalar.addi v0 c0_i32_389
  let v860 : Index := Scalar.indexCast v859
  ![39, v860.toNat]
def k0_off41 (i : grid0.Coords) (c0_i32_399 : BitVec 32) : Fin 2 → Nat :=
  let c40 : Index := 40#32
  let arg0 : BitVec 32 := BitVec.ofNat 32 (i 0).val
  let c2_i32 : BitVec 32 := 2#32
  let v0 : BitVec 32 := Scalar.muli arg0 c2_i32
  let v881 : BitVec 32 := Scalar.addi v0 c0_i32_399
  let v882 : Index := Scalar.indexCast v881
  ![40, v882.toNat]
def k0_off42 (i : grid0.Coords) (c0_i32_409 : BitVec 32) : Fin 2 → Nat :=
  let c41 : Index := 41#32
  let arg0 : BitVec 32 := BitVec.ofNat 32 (i 0).val
  let c2_i32 : BitVec 32 := 2#32
  let v0 : BitVec 32 := Scalar.muli arg0 c2_i32
  let v903 : BitVec 32 := Scalar.addi v0 c0_i32_409
  let v904 : Index := Scalar.indexCast v903
  ![41, v904.toNat]
def k0_off43 (i : grid0.Coords) (c0_i32_419 : BitVec 32) : Fin 2 → Nat :=
  let c42 : Index := 42#32
  let arg0 : BitVec 32 := BitVec.ofNat 32 (i 0).val
  let c2_i32 : BitVec 32 := 2#32
  let v0 : BitVec 32 := Scalar.muli arg0 c2_i32
  let v925 : BitVec 32 := Scalar.addi v0 c0_i32_419
  let v926 : Index := Scalar.indexCast v925
  ![42, v926.toNat]
def k0_off44 (i : grid0.Coords) (c0_i32_429 : BitVec 32) : Fin 2 → Nat :=
  let c43 : Index := 43#32
  let arg0 : BitVec 32 := BitVec.ofNat 32 (i 0).val
  let c2_i32 : BitVec 32 := 2#32
  let v0 : BitVec 32 := Scalar.muli arg0 c2_i32
  let v947 : BitVec 32 := Scalar.addi v0 c0_i32_429
  let v948 : Index := Scalar.indexCast v947
  ![43, v948.toNat]
def k0_off45 (i : grid0.Coords) (c0_i32_439 : BitVec 32) : Fin 2 → Nat :=
  let c44 : Index := 44#32
  let arg0 : BitVec 32 := BitVec.ofNat 32 (i 0).val
  let c2_i32 : BitVec 32 := 2#32
  let v0 : BitVec 32 := Scalar.muli arg0 c2_i32
  let v969 : BitVec 32 := Scalar.addi v0 c0_i32_439
  let v970 : Index := Scalar.indexCast v969
  ![44, v970.toNat]
def k0_off46 (i : grid0.Coords) (c0_i32_449 : BitVec 32) : Fin 2 → Nat :=
  let c45 : Index := 45#32
  let arg0 : BitVec 32 := BitVec.ofNat 32 (i 0).val
  let c2_i32 : BitVec 32 := 2#32
  let v0 : BitVec 32 := Scalar.muli arg0 c2_i32
  let v991 : BitVec 32 := Scalar.addi v0 c0_i32_449
  let v992 : Index := Scalar.indexCast v991
  ![45, v992.toNat]
def k0_off47 (i : grid0.Coords) (c0_i32_459 : BitVec 32) : Fin 2 → Nat :=
  let c46 : Index := 46#32
  let arg0 : BitVec 32 := BitVec.ofNat 32 (i 0).val
  let c2_i32 : BitVec 32 := 2#32
  let v0 : BitVec 32 := Scalar.muli arg0 c2_i32
  let v1013 : BitVec 32 := Scalar.addi v0 c0_i32_459
  let v1014 : Index := Scalar.indexCast v1013
  ![46, v1014.toNat]
def k0_off48 (i : grid0.Coords) (c0_i32_469 : BitVec 32) : Fin 2 → Nat :=
  let c47 : Index := 47#32
  let arg0 : BitVec 32 := BitVec.ofNat 32 (i 0).val
  let c2_i32 : BitVec 32 := 2#32
  let v0 : BitVec 32 := Scalar.muli arg0 c2_i32
  let v1035 : BitVec 32 := Scalar.addi v0 c0_i32_469
  let v1036 : Index := Scalar.indexCast v1035
  ![47, v1036.toNat]
def k0_off49 (i : grid0.Coords) (c0_i32_479 : BitVec 32) : Fin 2 → Nat :=
  let c48 : Index := 48#32
  let arg0 : BitVec 32 := BitVec.ofNat 32 (i 0).val
  let c2_i32 : BitVec 32 := 2#32
  let v0 : BitVec 32 := Scalar.muli arg0 c2_i32
  let v1057 : BitVec 32 := Scalar.addi v0 c0_i32_479
  let v1058 : Index := Scalar.indexCast v1057
  ![48, v1058.toNat]
def k0_off50 (i : grid0.Coords) (c0_i32_489 : BitVec 32) : Fin 2 → Nat :=
  let c49 : Index := 49#32
  let arg0 : BitVec 32 := BitVec.ofNat 32 (i 0).val
  let c2_i32 : BitVec 32 := 2#32
  let v0 : BitVec 32 := Scalar.muli arg0 c2_i32
  let v1079 : BitVec 32 := Scalar.addi v0 c0_i32_489
  let v1080 : Index := Scalar.indexCast v1079
  ![49, v1080.toNat]
def k0_off51 (i : grid0.Coords) (c0_i32_499 : BitVec 32) : Fin 2 → Nat :=
  let c50 : Index := 50#32
  let arg0 : BitVec 32 := BitVec.ofNat 32 (i 0).val
  let c2_i32 : BitVec 32 := 2#32
  let v0 : BitVec 32 := Scalar.muli arg0 c2_i32
  let v1101 : BitVec 32 := Scalar.addi v0 c0_i32_499
  let v1102 : Index := Scalar.indexCast v1101
  ![50, v1102.toNat]
def k0_off52 (i : grid0.Coords) (c0_i32_509 : BitVec 32) : Fin 2 → Nat :=
  let c51 : Index := 51#32
  let arg0 : BitVec 32 := BitVec.ofNat 32 (i 0).val
  let c2_i32 : BitVec 32 := 2#32
  let v0 : BitVec 32 := Scalar.muli arg0 c2_i32
  let v1123 : BitVec 32 := Scalar.addi v0 c0_i32_509
  let v1124 : Index := Scalar.indexCast v1123
  ![51, v1124.toNat]
def k0_off53 (i : grid0.Coords) (c0_i32_519 : BitVec 32) : Fin 2 → Nat :=
  let c52 : Index := 52#32
  let arg0 : BitVec 32 := BitVec.ofNat 32 (i 0).val
  let c2_i32 : BitVec 32 := 2#32
  let v0 : BitVec 32 := Scalar.muli arg0 c2_i32
  let v1145 : BitVec 32 := Scalar.addi v0 c0_i32_519
  let v1146 : Index := Scalar.indexCast v1145
  ![52, v1146.toNat]
def k0_off54 (i : grid0.Coords) (c0_i32_529 : BitVec 32) : Fin 2 → Nat :=
  let c53 : Index := 53#32
  let arg0 : BitVec 32 := BitVec.ofNat 32 (i 0).val
  let c2_i32 : BitVec 32 := 2#32
  let v0 : BitVec 32 := Scalar.muli arg0 c2_i32
  let v1167 : BitVec 32 := Scalar.addi v0 c0_i32_529
  let v1168 : Index := Scalar.indexCast v1167
  ![53, v1168.toNat]
def k0_off55 (i : grid0.Coords) (c0_i32_539 : BitVec 32) : Fin 2 → Nat :=
  let c54 : Index := 54#32
  let arg0 : BitVec 32 := BitVec.ofNat 32 (i 0).val
  let c2_i32 : BitVec 32 := 2#32
  let v0 : BitVec 32 := Scalar.muli arg0 c2_i32
  let v1189 : BitVec 32 := Scalar.addi v0 c0_i32_539
  let v1190 : Index := Scalar.indexCast v1189
  ![54, v1190.toNat]
def k0_off56 (i : grid0.Coords) (c0_i32_549 : BitVec 32) : Fin 2 → Nat :=
  let c55 : Index := 55#32
  let arg0 : BitVec 32 := BitVec.ofNat 32 (i 0).val
  let c2_i32 : BitVec 32 := 2#32
  let v0 : BitVec 32 := Scalar.muli arg0 c2_i32
  let v1211 : BitVec 32 := Scalar.addi v0 c0_i32_549
  let v1212 : Index := Scalar.indexCast v1211
  ![55, v1212.toNat]
def k0_off57 (i : grid0.Coords) (c0_i32_559 : BitVec 32) : Fin 2 → Nat :=
  let c56 : Index := 56#32
  let arg0 : BitVec 32 := BitVec.ofNat 32 (i 0).val
  let c2_i32 : BitVec 32 := 2#32
  let v0 : BitVec 32 := Scalar.muli arg0 c2_i32
  let v1233 : BitVec 32 := Scalar.addi v0 c0_i32_559
  let v1234 : Index := Scalar.indexCast v1233
  ![56, v1234.toNat]
def k0_off58 (i : grid0.Coords) (c0_i32_569 : BitVec 32) : Fin 2 → Nat :=
  let c57 : Index := 57#32
  let arg0 : BitVec 32 := BitVec.ofNat 32 (i 0).val
  let c2_i32 : BitVec 32 := 2#32
  let v0 : BitVec 32 := Scalar.muli arg0 c2_i32
  let v1255 : BitVec 32 := Scalar.addi v0 c0_i32_569
  let v1256 : Index := Scalar.indexCast v1255
  ![57, v1256.toNat]
def k0_off59 (i : grid0.Coords) (c0_i32_579 : BitVec 32) : Fin 2 → Nat :=
  let c58 : Index := 58#32
  let arg0 : BitVec 32 := BitVec.ofNat 32 (i 0).val
  let c2_i32 : BitVec 32 := 2#32
  let v0 : BitVec 32 := Scalar.muli arg0 c2_i32
  let v1277 : BitVec 32 := Scalar.addi v0 c0_i32_579
  let v1278 : Index := Scalar.indexCast v1277
  ![58, v1278.toNat]
def k0_off60 (i : grid0.Coords) (c0_i32_589 : BitVec 32) : Fin 2 → Nat :=
  let c59 : Index := 59#32
  let arg0 : BitVec 32 := BitVec.ofNat 32 (i 0).val
  let c2_i32 : BitVec 32 := 2#32
  let v0 : BitVec 32 := Scalar.muli arg0 c2_i32
  let v1299 : BitVec 32 := Scalar.addi v0 c0_i32_589
  let v1300 : Index := Scalar.indexCast v1299
  ![59, v1300.toNat]
def k0_off61 (i : grid0.Coords) (c0_i32_599 : BitVec 32) : Fin 2 → Nat :=
  let c60 : Index := 60#32
  let arg0 : BitVec 32 := BitVec.ofNat 32 (i 0).val
  let c2_i32 : BitVec 32 := 2#32
  let v0 : BitVec 32 := Scalar.muli arg0 c2_i32
  let v1321 : BitVec 32 := Scalar.addi v0 c0_i32_599
  let v1322 : Index := Scalar.indexCast v1321
  ![60, v1322.toNat]
def k0_off62 (i : grid0.Coords) (c0_i32_609 : BitVec 32) : Fin 2 → Nat :=
  let c61 : Index := 61#32
  let arg0 : BitVec 32 := BitVec.ofNat 32 (i 0).val
  let c2_i32 : BitVec 32 := 2#32
  let v0 : BitVec 32 := Scalar.muli arg0 c2_i32
  let v1343 : BitVec 32 := Scalar.addi v0 c0_i32_609
  let v1344 : Index := Scalar.indexCast v1343
  ![61, v1344.toNat]
def k0_off63 (i : grid0.Coords) (c0_i32_619 : BitVec 32) : Fin 2 → Nat :=
  let c62 : Index := 62#32
  let arg0 : BitVec 32 := BitVec.ofNat 32 (i 0).val
  let c2_i32 : BitVec 32 := 2#32
  let v0 : BitVec 32 := Scalar.muli arg0 c2_i32
  let v1365 : BitVec 32 := Scalar.addi v0 c0_i32_619
  let v1366 : Index := Scalar.indexCast v1365
  ![62, v1366.toNat]
def k0_off64 (i : grid0.Coords) (c0_i32_629 : BitVec 32) : Fin 2 → Nat :=
  let c63 : Index := 63#32
  let arg0 : BitVec 32 := BitVec.ofNat 32 (i 0).val
  let c2_i32 : BitVec 32 := 2#32
  let v0 : BitVec 32 := Scalar.muli arg0 c2_i32
  let v1387 : BitVec 32 := Scalar.addi v0 c0_i32_629
  let v1388 : Index := Scalar.indexCast v1387
  ![63, v1388.toNat]
def k0_off65 (i : grid0.Coords) (c0_i32_639 : BitVec 32) : Fin 2 → Nat :=
  let c64 : Index := 64#32
  let arg0 : BitVec 32 := BitVec.ofNat 32 (i 0).val
  let c2_i32 : BitVec 32 := 2#32
  let v0 : BitVec 32 := Scalar.muli arg0 c2_i32
  let v1409 : BitVec 32 := Scalar.addi v0 c0_i32_639
  let v1410 : Index := Scalar.indexCast v1409
  ![64, v1410.toNat]
def k0_off66 (i : grid0.Coords) (c0_i32_649 : BitVec 32) : Fin 2 → Nat :=
  let c65 : Index := 65#32
  let arg0 : BitVec 32 := BitVec.ofNat 32 (i 0).val
  let c2_i32 : BitVec 32 := 2#32
  let v0 : BitVec 32 := Scalar.muli arg0 c2_i32
  let v1431 : BitVec 32 := Scalar.addi v0 c0_i32_649
  let v1432 : Index := Scalar.indexCast v1431
  ![65, v1432.toNat]
def k0_off67 (i : grid0.Coords) (c0_i32_659 : BitVec 32) : Fin 2 → Nat :=
  let c66 : Index := 66#32
  let arg0 : BitVec 32 := BitVec.ofNat 32 (i 0).val
  let c2_i32 : BitVec 32 := 2#32
  let v0 : BitVec 32 := Scalar.muli arg0 c2_i32
  let v1453 : BitVec 32 := Scalar.addi v0 c0_i32_659
  let v1454 : Index := Scalar.indexCast v1453
  ![66, v1454.toNat]
def k0_off68 (i : grid0.Coords) (c0_i32_669 : BitVec 32) : Fin 2 → Nat :=
  let c67 : Index := 67#32
  let arg0 : BitVec 32 := BitVec.ofNat 32 (i 0).val
  let c2_i32 : BitVec 32 := 2#32
  let v0 : BitVec 32 := Scalar.muli arg0 c2_i32
  let v1475 : BitVec 32 := Scalar.addi v0 c0_i32_669
  let v1476 : Index := Scalar.indexCast v1475
  ![67, v1476.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1920x8704 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8704x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S68x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1920x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1920x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DownRefIdeal.lean ====
abbrev S1920x8704 : Shape := ⟨2, ![1920, 8704]⟩
abbrev S8704x5120 : Shape := ⟨2, ![8704, 5120]⟩
abbrev S68x40 : Shape := ⟨2, ![68, 40]⟩
abbrev S1920x5120 : Shape := ⟨2, ![1920, 5120]⟩
abbrev S68x1x40x1 : Shape := ⟨4, ![68, 1, 40, 1]⟩
abbrev S68x128x40x128 : Shape := ⟨4, ![68, 128, 40, 128]⟩

abbrev nBuf : Space → Nat
  | .hbm => 5
  | .vmem => 5
  | .smem => 0
  | _ => 0

abbrev bufTy : (tb : Table) → Fin (tcTables nBuf tb) → BufTy
  | .hbm, ⟨0, _⟩ => ⟨S1920x8704, .bf16⟩
  | .hbm, ⟨1, _⟩ => ⟨S8704x5120, .fp8e4m3⟩
  | .hbm, ⟨2, _⟩ => ⟨S68x40, .f32⟩
  | .hbm, ⟨3, _⟩ => ⟨S1920x5120, .f32⟩
  | .hbm, ⟨4, _⟩ => ⟨S1920x5120, .bf16⟩
  | .local _ .vmem, ⟨0, _⟩ => ⟨S1920x8704, .bf16⟩
  | .local _ .vmem, ⟨1, _⟩ => ⟨S8704x5120, .fp8e4m3⟩
  | .local _ .vmem, ⟨2, _⟩ => ⟨S68x40, .f32⟩
  | .local _ .vmem, ⟨3, _⟩ => ⟨S1920x5120, .f32⟩
  | .local _ .vmem, ⟨4, _⟩ => ⟨S1920x5120, .bf16⟩
  | _, _ => ⟨S1920x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1920x8704 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8704x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S68x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Out.lean ====
abbrev S1920x3072 : Shape := ⟨2, ![1920, 3072]⟩
abbrev S3072x5120 : Shape := ⟨2, ![3072, 5120]⟩
abbrev S24x40 : Shape := ⟨2, ![24, 40]⟩
abbrev S1920x5120 : Shape := ⟨2, ![1920, 5120]⟩
abbrev S3072x256 : Shape := ⟨2, ![3072, 256]⟩
abbrev S1920x256 : Shape := ⟨2, ![1920, 256]⟩
abbrev S1x1 : Shape := ⟨2, ![1, 1]⟩
abbrev S128x128 : Shape := ⟨2, ![128, 128]⟩
abbrev S480x3072 : Shape := ⟨2, ![480, 3072]⟩
abbrev S480x256 : Shape := ⟨2, ![480, 256]⟩

abbrev nBuf : Space → Nat
  | .hbm => 5
  | .vmem => 8
  | .smem => 1
  | _ => 0

abbrev bufTy : (tb : Table) → Fin (tcTables nBuf tb) → BufTy
  | .hbm, ⟨0, _⟩ => ⟨S1920x3072, .bf16⟩
  | .hbm, ⟨1, _⟩ => ⟨S3072x5120, .fp8e4m3⟩
  | .hbm, ⟨2, _⟩ => ⟨S24x40, .f32⟩
  | .hbm, ⟨3, _⟩ => ⟨S1920x5120, .bf16⟩
  | .hbm, ⟨4, _⟩ => ⟨S1920x5120, .f32⟩
  | .local _ .vmem, ⟨0, _⟩ => ⟨S1920x3072, .bf16⟩
  | .local _ .vmem, ⟨1, _⟩ => ⟨S3072x256, .fp8e4m3⟩
  | .local _ .vmem, ⟨2, _⟩ => ⟨S3072x256, .fp8e4m3⟩
  | .local _ .vmem, ⟨3, _⟩ => ⟨S1920x256, .bf16⟩
  | .local _ .vmem, ⟨4, _⟩ => ⟨S1920x256, .bf16⟩
  | .local _ .vmem, ⟨5, _⟩ => ⟨S1920x256, .f32⟩
  | .local _ .vmem, ⟨6, _⟩ => ⟨S1920x256, .f32⟩
  | .local _ .vmem, ⟨7, _⟩ => ⟨S3072x256, .bf16⟩
  | .local _ .smem, ⟨0, _⟩ => ⟨S24x40, .f32⟩
  | _, _ => ⟨S1920x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg2_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def k0_off1 (i : grid0.Coords) (c0_i32 : BitVec 32) : Fin 2 → Nat :=
  let c0 : Index := 0#32
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  ![0, v2.toNat]
def k0_off2 (i : grid0.Coords) (c0_i32_8 : BitVec 32) : Fin 2 → Nat :=
  let c1 : Index := 1#32
  let arg0 : BitVec 32 := BitVec.ofNat 32 (i 0).val
  let c2_i32 : BitVec 32 := 2#32
  let v0 : BitVec 32 := Scalar.muli arg0 c2_i32
  let v23 : BitVec 32 := Scalar.addi v0 c0_i32_8
  let v24 : Index := Scalar.indexCast v23
  ![1, v24.toNat]
def k0_off3 (i : grid0.Coords) (c0_i32_19 : BitVec 32) : Fin 2 → Nat :=
  let c2 : Index := 2#32
  let arg0 : BitVec 32 := BitVec.ofNat 32 (i 0).val
  let c2_i32 : BitVec 32 := 2#32
  let v0 : BitVec 32 := Scalar.muli arg0 c2_i32
  let v45 : BitVec 32 := Scalar.addi v0 c0_i32_19
  let v46 : Index := Scalar.indexCast v45
  ![2, v46.toNat]
def k0_off4 (i : grid0.Coords) (c0_i32_29 : BitVec 32) : Fin 2 → Nat :=
  let c3 : Index := 3#32
  let arg0 : BitVec 32 := BitVec.ofNat 32 (i 0).val
  let c2_i32 : BitVec 32 := 2#32
  let v0 : BitVec 32 := Scalar.muli arg0 c2_i32
  let v67 : BitVec 32 := Scalar.addi v0 c0_i32_29
  let v68 : Index := Scalar.indexCast v67
  ![3, v68.toNat]
def k0_off5 (i : grid0.Coords) (c0_i32_39 : BitVec 32) : Fin 2 → Nat :=
  let c4 : Index := 4#32
  let arg0 : BitVec 32 := BitVec.ofNat 32 (i 0).val
  let c2_i32 : BitVec 32 := 2#32
  let v0 : BitVec 32 := Scalar.muli arg0 c2_i32
  let v89 : BitVec 32 := Scalar.addi v0 c0_i32_39
  let v90 : Index := Scalar.indexCast v89
  ![4, v90.toNat]
def k0_off6 (i : grid0.Coords) (c0_i32_49 : BitVec 32) : Fin 2 → Nat :=
  let c5 : Index := 5#32
  let arg0 : BitVec 32 := BitVec.ofNat 32 (i 0).val
  let c2_i32 : BitVec 32 := 2#32
  let v0 : BitVec 32 := Scalar.muli arg0 c2_i32
  let v111 : BitVec 32 := Scalar.addi v0 c0_i32_49
  let v112 : Index := Scalar.indexCast v111
  ![5, v112.toNat]
def k0_off7 (i : grid0.Coords) (c0_i32_59 : BitVec 32) : Fin 2 → Nat :=
  let c6 : Index := 6#32
  let arg0 : BitVec 32 := BitVec.ofNat 32 (i 0).val
  let c2_i32 : BitVec 32 := 2#32
  let v0 : BitVec 32 := Scalar.muli arg0 c2_i32
  let v133 : BitVec 32 := Scalar.addi v0 c0_i32_59
  let v134 : Index := Scalar.indexCast v133
  ![6, v134.toNat]
def k0_off8 (i : grid0.Coords) (c0_i32_69 : BitVec 32) : Fin 2 → Nat :=
  let c7 : Index := 7#32
  let arg0 : BitVec 32 := BitVec.ofNat 32 (i 0).val
  let c2_i32 : BitVec 32 := 2#32
  let v0 : BitVec 32 := Scalar.muli arg0 c2_i32
  let v155 : BitVec 32 := Scalar.addi v0 c0_i32_69
  let v156 : Index := Scalar.indexCast v155
  ![7, v156.toNat]
def k0_off9 (i : grid0.Coords) (c0_i32_79 : BitVec 32) : Fin 2 → Nat :=
  let c8 : Index := 8#32
  let arg0 : BitVec 32 := BitVec.ofNat 32 (i 0).val
  let c2_i32 : BitVec 32 := 2#32
  let v0 : BitVec 32 := Scalar.muli arg0 c2_i32
  let v177 : BitVec 32 := Scalar.addi v0 c0_i32_79
  let v178 : Index := Scalar.indexCast v177
  ![8, v178.toNat]
def k0_off10 (i : grid0.Coords) (c0_i32_89 : BitVec 32) : Fin 2 → Nat :=
  let c9 : Index := 9#32
  let arg0 : BitVec 32 := BitVec.ofNat 32 (i 0).val
  let c2_i32 : BitVec 32 := 2#32
  let v0 : BitVec 32 := Scalar.muli arg0 c2_i32
  let v199 : BitVec 32 := Scalar.addi v0 c0_i32_89
  let v200 : Index := Scalar.indexCast v199
  ![9, v200.toNat]
def k0_off11 (i : grid0.Coords) (c0_i32_99 : BitVec 32) : Fin 2 → Nat :=
  let c10 : Index := 10#32
  let arg0 : BitVec 32 := BitVec.ofNat 32 (i 0).val
  let c2_i32 : BitVec 32 := 2#32
  let v0 : BitVec 32 := Scalar.muli arg0 c2_i32
  let v221 : BitVec 32 := Scalar.addi v0 c0_i32_99
  let v222 : Index := Scalar.indexCast v221
  ![10, v222.toNat]
def k0_off12 (i : grid0.Coords) (c0_i32_109 : BitVec 32) : Fin 2 → Nat :=
  let c11 : Index := 11#32
  let arg0 : BitVec 32 := BitVec.ofNat 32 (i 0).val
  let c2_i32 : BitVec 32 := 2#32
  let v0 : BitVec 32 := Scalar.muli arg0 c2_i32
  let v243 : BitVec 32 := Scalar.addi v0 c0_i32_109
  let v244 : Index := Scalar.indexCast v243
  ![11, v244.toNat]
def k0_off13 (i : grid0.Coords) (c0_i32_119 : BitVec 32) : Fin 2 → Nat :=
  let c12 : Index := 12#32
  let arg0 : BitVec 32 := BitVec.ofNat 32 (i 0).val
  let c2_i32 : BitVec 32 := 2#32
  let v0 : BitVec 32 := Scalar.muli arg0 c2_i32
  let v265 : BitVec 32 := Scalar.addi v0 c0_i32_119
  let v266 : Index := Scalar.indexCast v265
  ![12, v266.toNat]
def k0_off14 (i : grid0.Coords) (c0_i32_129 : BitVec 32) : Fin 2 → Nat :=
  let c13 : Index := 13#32
  let arg0 : BitVec 32 := BitVec.ofNat 32 (i 0).val
  let c2_i32 : BitVec 32 := 2#32
  let v0 : BitVec 32 := Scalar.muli arg0 c2_i32
  let v287 : BitVec 32 := Scalar.addi v0 c0_i32_129
  let v288 : Index := Scalar.indexCast v287
  ![13, v288.toNat]
def k0_off15 (i : grid0.Coords) (c0_i32_139 : BitVec 32) : Fin 2 → Nat :=
  let c14 : Index := 14#32
  let arg0 : BitVec 32 := BitVec.ofNat 32 (i 0).val
  let c2_i32 : BitVec 32 := 2#32
  let v0 : BitVec 32 := Scalar.muli arg0 c2_i32
  let v309 : BitVec 32 := Scalar.addi v0 c0_i32_139
  let v310 : Index := Scalar.indexCast v309
  ![14, v310.toNat]
def k0_off16 (i : grid0.Coords) (c0_i32_149 : BitVec 32) : Fin 2 → Nat :=
  let c15 : Index := 15#32
  let arg0 : BitVec 32 := BitVec.ofNat 32 (i 0).val
  let c2_i32 : BitVec 32 := 2#32
  let v0 : BitVec 32 := Scalar.muli arg0 c2_i32
  let v331 : BitVec 32 := Scalar.addi v0 c0_i32_149
  let v332 : Index := Scalar.indexCast v331
  ![15, v332.toNat]
def k0_off17 (i : grid0.Coords) (c0_i32_159 : BitVec 32) : Fin 2 → Nat :=
  let c16 : Index := 16#32
  let arg0 : BitVec 32 := BitVec.ofNat 32 (i 0).val
  let c2_i32 : BitVec 32 := 2#32
  let v0 : BitVec 32 := Scalar.muli arg0 c2_i32
  let v353 : BitVec 32 := Scalar.addi v0 c0_i32_159
  let v354 : Index := Scalar.indexCast v353
  ![16, v354.toNat]
def k0_off18 (i : grid0.Coords) (c0_i32_169 : BitVec 32) : Fin 2 → Nat :=
  let c17 : Index := 17#32
  let arg0 : BitVec 32 := BitVec.ofNat 32 (i 0).val
  let c2_i32 : BitVec 32 := 2#32
  let v0 : BitVec 32 := Scalar.muli arg0 c2_i32
  let v375 : BitVec 32 := Scalar.addi v0 c0_i32_169
  let v376 : Index := Scalar.indexCast v375
  ![17, v376.toNat]
def k0_off19 (i : grid0.Coords) (c0_i32_179 : BitVec 32) : Fin 2 → Nat :=
  let c18 : Index := 18#32
  let arg0 : BitVec 32 := BitVec.ofNat 32 (i 0).val
  let c2_i32 : BitVec 32 := 2#32
  let v0 : BitVec 32 := Scalar.muli arg0 c2_i32
  let v397 : BitVec 32 := Scalar.addi v0 c0_i32_179
  let v398 : Index := Scalar.indexCast v397
  ![18, v398.toNat]
def k0_off20 (i : grid0.Coords) (c0_i32_189 : BitVec 32) : Fin 2 → Nat :=
  let c19 : Index := 19#32
  let arg0 : BitVec 32 := BitVec.ofNat 32 (i 0).val
  let c2_i32 : BitVec 32 := 2#32
  let v0 : BitVec 32 := Scalar.muli arg0 c2_i32
  let v419 : BitVec 32 := Scalar.addi v0 c0_i32_189
  let v420 : Index := Scalar.indexCast v419
  ![19, v420.toNat]
def k0_off21 (i : grid0.Coords) (c0_i32_199 : BitVec 32) : Fin 2 → Nat :=
  let c20 : Index := 20#32
  let arg0 : BitVec 32 := BitVec.ofNat 32 (i 0).val
  let c2_i32 : BitVec 32 := 2#32
  let v0 : BitVec 32 := Scalar.muli arg0 c2_i32
  let v441 : BitVec 32 := Scalar.addi v0 c0_i32_199
  let v442 : Index := Scalar.indexCast v441
  ![20, v442.toNat]
def k0_off22 (i : grid0.Coords) (c0_i32_209 : BitVec 32) : Fin 2 → Nat :=
  let c21 : Index := 21#32
  let arg0 : BitVec 32 := BitVec.ofNat 32 (i 0).val
  let c2_i32 : BitVec 32 := 2#32
  let v0 : BitVec 32 := Scalar.muli arg0 c2_i32
  let v463 : BitVec 32 := Scalar.addi v0 c0_i32_209
  let v464 : Index := Scalar.indexCast v463
  ![21, v464.toNat]
def k0_off23 (i : grid0.Coords) (c0_i32_219 : BitVec 32) : Fin 2 → Nat :=
  let c22 : Index := 22#32
  let arg0 : BitVec 32 := BitVec.ofNat 32 (i 0).val
  let c2_i32 : BitVec 32 := 2#32
  let v0 : BitVec 32 := Scalar.muli arg0 c2_i32
  let v485 : BitVec 32 := Scalar.addi v0 c0_i32_219
  let v486 : Index := Scalar.indexCast v485
  ![22, v486.toNat]
def k0_off24 (i : grid0.Coords) (c0_i32_229 : BitVec 32) : Fin 2 → Nat :=
  let c23 : Index := 23#32
  let arg0 : BitVec 32 := BitVec.ofNat 32 (i 0).val
  let c2_i32 : BitVec 32 := 2#32
  let v0 : BitVec 32 := Scalar.muli arg0 c2_i32
  let v507 : BitVec 32 := Scalar.addi v0 c0_i32_229
  let v508 : Index := Scalar.indexCast v507
  ![23, v508.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1920x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S24x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1920x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1920x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutRefIdeal.lean ====
abbrev S1920x3072 : Shape := ⟨2, ![1920, 3072]⟩
abbrev S3072x5120 : Shape := ⟨2, ![3072, 5120]⟩
abbrev S24x40 : Shape := ⟨2, ![24, 40]⟩
abbrev S1920x5120 : Shape := ⟨2, ![1920, 5120]⟩
abbrev S24x1x40x1 : Shape := ⟨4, ![24, 1, 40, 1]⟩
abbrev S24x128x40x128 : Shape := ⟨4, ![24, 128, 40, 128]⟩

abbrev nBuf : Space → Nat
  | .hbm => 5
  | .vmem => 5
  | .smem => 0
  | _ => 0

abbrev bufTy : (tb : Table) → Fin (tcTables nBuf tb) → BufTy
  | .hbm, ⟨0, _⟩ => ⟨S1920x3072, .bf16⟩
  | .hbm, ⟨1, _⟩ => ⟨S3072x5120, .fp8e4m3⟩
  | .hbm, ⟨2, _⟩ => ⟨S24x40, .f32⟩
  | .hbm, ⟨3, _⟩ => ⟨S1920x5120, .bf16⟩
  | .hbm, ⟨4, _⟩ => ⟨S1920x5120, .f32⟩
  | .local _ .vmem, ⟨0, _⟩ => ⟨S1920x3072, .bf16⟩
  | .local _ .vmem, ⟨1, _⟩ => ⟨S3072x5120, .fp8e4m3⟩
  | .local _ .vmem, ⟨2, _⟩ => ⟨S24x40, .f32⟩
  | .local _ .vmem, ⟨3, _⟩ => ⟨S1920x5120, .bf16⟩
  | .local _ .vmem, ⟨4, _⟩ => ⟨S1920x5120, .f32⟩
  | _, _ => ⟨S1920x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1920x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== GateUp.lean ====
abbrev S1920x5120 : Shape := ⟨2, ![1920, 5120]⟩
abbrev S5120x17408 : Shape := ⟨2, ![5120, 17408]⟩
abbrev S40x136 : Shape := ⟨2, ![40, 136]⟩
abbrev S1920x8704 : Shape := ⟨2, ![1920, 8704]⟩
abbrev S34x1920x128 : Shape := ⟨3, ![34, 1920, 128]⟩
abbrev S5120x256 : Shape := ⟨2, ![5120, 256]⟩
abbrev S1920x256 : Shape := ⟨2, ![1920, 256]⟩
abbrev S1x1920x128 : Shape := ⟨3, ![1, 1920, 128]⟩
abbrev S1x1 : Shape := ⟨2, ![1, 1]⟩
abbrev S128x128 : Shape := ⟨2, ![128, 128]⟩
abbrev S320x5120 : Shape := ⟨2, ![320, 5120]⟩
abbrev S320x256 : Shape := ⟨2, ![320, 256]⟩
abbrev S320x128 : Shape := ⟨2, ![320, 128]⟩
abbrev S320 : Shape := ⟨1, ![320]⟩
abbrev S320x1 : Shape := ⟨2, ![320, 1]⟩
abbrev S1x320x128 : Shape := ⟨3, ![1, 320, 128]⟩

abbrev nBuf : Space → Nat
  | .hbm => 6
  | .vmem => 13
  | .smem => 1
  | _ => 0

abbrev bufTy : (tb : Table) → Fin (tcTables nBuf tb) → BufTy
  | .hbm, ⟨0, _⟩ => ⟨S1920x5120, .bf16⟩
  | .hbm, ⟨1, _⟩ => ⟨S5120x17408, .fp8e4m3⟩
  | .hbm, ⟨2, _⟩ => ⟨S40x136, .f32⟩
  | .hbm, ⟨3, _⟩ => ⟨S1920x8704, .fp8e4m3⟩
  | .hbm, ⟨4, _⟩ => ⟨S34x1920x128, .f32⟩
  | .hbm, ⟨5, _⟩ => ⟨S1920x8704, .bf16⟩
  | .local _ .vmem, ⟨0, _⟩ => ⟨S1920x5120, .bf16⟩
  | .local _ .vmem, ⟨1, _⟩ => ⟨S5120x256, .fp8e4m3⟩
  | .local _ .vmem, ⟨2, _⟩ => ⟨S5120x256, .fp8e4m3⟩
  | .local _ .vmem, ⟨3, _⟩ => ⟨S5120x256, .fp8e4m3⟩
  | .local _ .vmem, ⟨4, _⟩ => ⟨S5120x256, .fp8e4m3⟩
  | .local _ .vmem, ⟨5, _⟩ => ⟨S1920x256, .fp8e4m3⟩
  | .local _ .vmem, ⟨6, _⟩ => ⟨S1920x256, .fp8e4m3⟩
  | .local _ .vmem, ⟨7, _⟩ => ⟨S1x1920x128, .f32⟩
  | .local _ .vmem, ⟨8, _⟩ => ⟨S1x1920x128, .f32⟩
  | .local _ .vmem, ⟨9, _⟩ => ⟨S1920x256, .bf16⟩
  | .local _ .vmem, ⟨10, _⟩ => ⟨S1920x256, .bf16⟩
  | .local _ .vmem, ⟨11, _⟩ => ⟨S5120x256, .bf16⟩
  | .local _ .vmem, ⟨12, _⟩ => ⟨S1920x256, .f32⟩
  | .local _ .smem, ⟨0, _⟩ => ⟨S40x136, .f32⟩
  | _, _ => ⟨S1920x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_stg3_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![34], ![false]⟩

def k0_off1 (i : grid0.Coords) (c0_i32 : BitVec 32) : Fin 2 → Nat :=
  let c0 : Index := 0#32
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  ![0, v2.toNat]
def k0_off2 (i : grid0.Coords) (c0_i32_8 : BitVec 32) : Fin 2 → Nat :=
  let c1 : Index := 1#32
  let arg0 : BitVec 32 := BitVec.ofNat 32 (i 0).val
  let c2_i32 : BitVec 32 := 2#32
  let v0 : BitVec 32 := Scalar.muli arg0 c2_i32
  let v23 : BitVec 32 := Scalar.addi v0 c0_i32_8
  let v24 : Index := Scalar.indexCast v23
  ![1, v24.toNat]
def k0_off3 (i : grid0.Coords) (c0_i32_19 : BitVec 32) : Fin 2 → Nat :=
  let c2 : Index := 2#32
  let arg0 : BitVec 32 := BitVec.ofNat 32 (i 0).val
  let c2_i32 : BitVec 32 := 2#32
  let v0 : BitVec 32 := Scalar.muli arg0 c2_i32
  let v45 : BitVec 32 := Scalar.addi v0 c0_i32_19
  let v46 : Index := Scalar.indexCast v45
  ![2, v46.toNat]
def k0_off4 (i : grid0.Coords) (c0_i32_29 : BitVec 32) : Fin 2 → Nat :=
  let c3 : Index := 3#32
  let arg0 : BitVec 32 := BitVec.ofNat 32 (i 0).val
  let c2_i32 : BitVec 32 := 2#32
  let v0 : BitVec 32 := Scalar.muli arg0 c2_i32
  let v67 : BitVec 32 := Scalar.addi v0 c0_i32_29
  let v68 : Index := Scalar.indexCast v67
  ![3, v68.toNat]
def k0_off5 (i : grid0.Coords) (c0_i32_39 : BitVec 32) : Fin 2 → Nat :=
  let c4 : Index := 4#32
  let arg0 : BitVec 32 := BitVec.ofNat 32 (i 0).val
  let c2_i32 : BitVec 32 := 2#32
  let v0 : BitVec 32 := Scalar.muli arg0 c2_i32
  let v89 : BitVec 32 := Scalar.addi v0 c0_i32_39
  let v90 : Index := Scalar.indexCast v89
  ![4, v90.toNat]
def k0_off6 (i : grid0.Coords) (c0_i32_49 : BitVec 32) : Fin 2 → Nat :=
  let c5 : Index := 5#32
  let arg0 : BitVec 32 := BitVec.ofNat 32 (i 0).val
  let c2_i32 : BitVec 32 := 2#32
  let v0 : BitVec 32 := Scalar.muli arg0 c2_i32
  let v111 : BitVec 32 := Scalar.addi v0 c0_i32_49
  let v112 : Index := Scalar.indexCast v111
  ![5, v112.toNat]
def k0_off7 (i : grid0.Coords) (c0_i32_59 : BitVec 32) : Fin 2 → Nat :=
  let c6 : Index := 6#32
  let arg0 : BitVec 32 := BitVec.ofNat 32 (i 0).val
  let c2_i32 : BitVec 32 := 2#32
  let v0 : BitVec 32 := Scalar.muli arg0 c2_i32
  let v133 : BitVec 32 := Scalar.addi v0 c0_i32_59
  let v134 : Index := Scalar.indexCast v133
  ![6, v134.toNat]
def k0_off8 (i : grid0.Coords) (c0_i32_69 : BitVec 32) : Fin 2 → Nat :=
  let c7 : Index := 7#32
  let arg0 : BitVec 32 := BitVec.ofNat 32 (i 0).val
  let c2_i32 : BitVec 32 := 2#32
  let v0 : BitVec 32 := Scalar.muli arg0 c2_i32
  let v155 : BitVec 32 := Scalar.addi v0 c0_i32_69
  let v156 : Index := Scalar.indexCast v155
  ![7, v156.toNat]
def k0_off9 (i : grid0.Coords) (c0_i32_79 : BitVec 32) : Fin 2 → Nat :=
  let c8 : Index := 8#32
  let arg0 : BitVec 32 := BitVec.ofNat 32 (i 0).val
  let c2_i32 : BitVec 32 := 2#32
  let v0 : BitVec 32 := Scalar.muli arg0 c2_i32
  let v177 : BitVec 32 := Scalar.addi v0 c0_i32_79
  let v178 : Index := Scalar.indexCast v177
  ![8, v178.toNat]
def k0_off10 (i : grid0.Coords) (c0_i32_89 : BitVec 32) : Fin 2 → Nat :=
  let c9 : Index := 9#32
  let arg0 : BitVec 32 := BitVec.ofNat 32 (i 0).val
  let c2_i32 : BitVec 32 := 2#32
  let v0 : BitVec 32 := Scalar.muli arg0 c2_i32
  let v199 : BitVec 32 := Scalar.addi v0 c0_i32_89
  let v200 : Index := Scalar.indexCast v199
  ![9, v200.toNat]
def k0_off11 (i : grid0.Coords) (c0_i32_99 : BitVec 32) : Fin 2 → Nat :=
  let c10 : Index := 10#32
  let arg0 : BitVec 32 := BitVec.ofNat 32 (i 0).val
  let c2_i32 : BitVec 32 := 2#32
  let v0 : BitVec 32 := Scalar.muli arg0 c2_i32
  let v221 : BitVec 32 := Scalar.addi v0 c0_i32_99
  let v222 : Index := Scalar.indexCast v221
  ![10, v222.toNat]
def k0_off12 (i : grid0.Coords) (c0_i32_109 : BitVec 32) : Fin 2 → Nat :=
  let c11 : Index := 11#32
  let arg0 : BitVec 32 := BitVec.ofNat 32 (i 0).val
  let c2_i32 : BitVec 32 := 2#32
  let v0 : BitVec 32 := Scalar.muli arg0 c2_i32
  let v243 : BitVec 32 := Scalar.addi v0 c0_i32_109
  let v244 : Index := Scalar.indexCast v243
  ![11, v244.toNat]
def k0_off13 (i : grid0.Coords) (c0_i32_119 : BitVec 32) : Fin 2 → Nat :=
  let c12 : Index := 12#32
  let arg0 : BitVec 32 := BitVec.ofNat 32 (i 0).val
  let c2_i32 : BitVec 32 := 2#32
  let v0 : BitVec 32 := Scalar.muli arg0 c2_i32
  let v265 : BitVec 32 := Scalar.addi v0 c0_i32_119
  let v266 : Index := Scalar.indexCast v265
  ![12, v266.toNat]
def k0_off14 (i : grid0.Coords) (c0_i32_129 : BitVec 32) : Fin 2 → Nat :=
  let c13 : Index := 13#32
  let arg0 : BitVec 32 := BitVec.ofNat 32 (i 0).val
  let c2_i32 : BitVec 32 := 2#32
  let v0 : BitVec 32 := Scalar.muli arg0 c2_i32
  let v287 : BitVec 32 := Scalar.addi v0 c0_i32_129
  let v288 : Index := Scalar.indexCast v287
  ![13, v288.toNat]
def k0_off15 (i : grid0.Coords) (c0_i32_139 : BitVec 32) : Fin 2 → Nat :=
  let c14 : Index := 14#32
  let arg0 : BitVec 32 := BitVec.ofNat 32 (i 0).val
  let c2_i32 : BitVec 32 := 2#32
  let v0 : BitVec 32 := Scalar.muli arg0 c2_i32
  let v309 : BitVec 32 := Scalar.addi v0 c0_i32_139
  let v310 : Index := Scalar.indexCast v309
  ![14, v310.toNat]
def k0_off16 (i : grid0.Coords) (c0_i32_149 : BitVec 32) : Fin 2 → Nat :=
  let c15 : Index := 15#32
  let arg0 : BitVec 32 := BitVec.ofNat 32 (i 0).val
  let c2_i32 : BitVec 32 := 2#32
  let v0 : BitVec 32 := Scalar.muli arg0 c2_i32
  let v331 : BitVec 32 := Scalar.addi v0 c0_i32_149
  let v332 : Index := Scalar.indexCast v331
  ![15, v332.toNat]
def k0_off17 (i : grid0.Coords) (c0_i32_159 : BitVec 32) : Fin 2 → Nat :=
  let c16 : Index := 16#32
  let arg0 : BitVec 32 := BitVec.ofNat 32 (i 0).val
  let c2_i32 : BitVec 32 := 2#32
  let v0 : BitVec 32 := Scalar.muli arg0 c2_i32
  let v353 : BitVec 32 := Scalar.addi v0 c0_i32_159
  let v354 : Index := Scalar.indexCast v353
  ![16, v354.toNat]
def k0_off18 (i : grid0.Coords) (c0_i32_169 : BitVec 32) : Fin 2 → Nat :=
  let c17 : Index := 17#32
  let arg0 : BitVec 32 := BitVec.ofNat 32 (i 0).val
  let c2_i32 : BitVec 32 := 2#32
  let v0 : BitVec 32 := Scalar.muli arg0 c2_i32
  let v375 : BitVec 32 := Scalar.addi v0 c0_i32_169
  let v376 : Index := Scalar.indexCast v375
  ![17, v376.toNat]
def k0_off19 (i : grid0.Coords) (c0_i32_179 : BitVec 32) : Fin 2 → Nat :=
  let c18 : Index := 18#32
  let arg0 : BitVec 32 := BitVec.ofNat 32 (i 0).val
  let c2_i32 : BitVec 32 := 2#32
  let v0 : BitVec 32 := Scalar.muli arg0 c2_i32
  let v397 : BitVec 32 := Scalar.addi v0 c0_i32_179
  let v398 : Index := Scalar.indexCast v397
  ![18, v398.toNat]
def k0_off20 (i : grid0.Coords) (c0_i32_189 : BitVec 32) : Fin 2 → Nat :=
  let c19 : Index := 19#32
  let arg0 : BitVec 32 := BitVec.ofNat 32 (i 0).val
  let c2_i32 : BitVec 32 := 2#32
  let v0 : BitVec 32 := Scalar.muli arg0 c2_i32
  let v419 : BitVec 32 := Scalar.addi v0 c0_i32_189
  let v420 : Index := Scalar.indexCast v419
  ![19, v420.toNat]
def k0_off21 (i : grid0.Coords) (c0_i32_199 : BitVec 32) : Fin 2 → Nat :=
  let c20 : Index := 20#32
  let arg0 : BitVec 32 := BitVec.ofNat 32 (i 0).val
  let c2_i32 : BitVec 32 := 2#32
  let v0 : BitVec 32 := Scalar.muli arg0 c2_i32
  let v441 : BitVec 32 := Scalar.addi v0 c0_i32_199
  let v442 : Index := Scalar.indexCast v441
  ![20, v442.toNat]
def k0_off22 (i : grid0.Coords) (c0_i32_209 : BitVec 32) : Fin 2 → Nat :=
  let c21 : Index := 21#32
  let arg0 : BitVec 32 := BitVec.ofNat 32 (i 0).val
  let c2_i32 : BitVec 32 := 2#32
  let v0 : BitVec 32 := Scalar.muli arg0 c2_i32
  let v463 : BitVec 32 := Scalar.addi v0 c0_i32_209
  let v464 : Index := Scalar.indexCast v463
  ![21, v464.toNat]
def k0_off23 (i : grid0.Coords) (c0_i32_219 : BitVec 32) : Fin 2 → Nat :=
  let c22 : Index := 22#32
  let arg0 : BitVec 32 := BitVec.ofNat 32 (i 0).val
  let c2_i32 : BitVec 32 := 2#32
  let v0 : BitVec 32 := Scalar.muli arg0 c2_i32
  let v485 : BitVec 32 := Scalar.addi v0 c0_i32_219
  let v486 : Index := Scalar.indexCast v485
  ![22, v486.toNat]
def k0_off24 (i : grid0.Coords) (c0_i32_229 : BitVec 32) : Fin 2 → Nat :=
  let c23 : Index := 23#32
  let arg0 : BitVec 32 := BitVec.ofNat 32 (i 0).val
  let c2_i32 : BitVec 32 := 2#32
  let v0 : BitVec 32 := Scalar.muli arg0 c2_i32
  let v507 : BitVec 32 := Scalar.addi v0 c0_i32_229
  let v508 : Index := Scalar.indexCast v507
  ![23, v508.toNat]
def k0_off25 (i : grid0.Coords) (c0_i32_239 : BitVec 32) : Fin 2 → Nat :=
  let c24 : Index := 24#32
  let arg0 : BitVec 32 := BitVec.ofNat 32 (i 0).val
  let c2_i32 : BitVec 32 := 2#32
  let v0 : BitVec 32 := Scalar.muli arg0 c2_i32
  let v529 : BitVec 32 := Scalar.addi v0 c0_i32_239
  let v530 : Index := Scalar.indexCast v529
  ![24, v530.toNat]
def k0_off26 (i : grid0.Coords) (c0_i32_249 : BitVec 32) : Fin 2 → Nat :=
  let c25 : Index := 25#32
  let arg0 : BitVec 32 := BitVec.ofNat 32 (i 0).val
  let c2_i32 : BitVec 32 := 2#32
  let v0 : BitVec 32 := Scalar.muli arg0 c2_i32
  let v551 : BitVec 32 := Scalar.addi v0 c0_i32_249
  let v552 : Index := Scalar.indexCast v551
  ![25, v552.toNat]
def k0_off27 (i : grid0.Coords) (c0_i32_259 : BitVec 32) : Fin 2 → Nat :=
  let c26 : Index := 26#32
  let arg0 : BitVec 32 := BitVec.ofNat 32 (i 0).val
  let c2_i32 : BitVec 32 := 2#32
  let v0 : BitVec 32 := Scalar.muli arg0 c2_i32
  let v573 : BitVec 32 := Scalar.addi v0 c0_i32_259
  let v574 : Index := Scalar.indexCast v573
  ![26, v574.toNat]
def k0_off28 (i : grid0.Coords) (c0_i32_269 : BitVec 32) : Fin 2 → Nat :=
  let c27 : Index := 27#32
  let arg0 : BitVec 32 := BitVec.ofNat 32 (i 0).val
  let c2_i32 : BitVec 32 := 2#32
  let v0 : BitVec 32 := Scalar.muli arg0 c2_i32
  let v595 : BitVec 32 := Scalar.addi v0 c0_i32_269
  let v596 : Index := Scalar.indexCast v595
  ![27, v596.toNat]
def k0_off29 (i : grid0.Coords) (c0_i32_279 : BitVec 32) : Fin 2 → Nat :=
  let c28 : Index := 28#32
  let arg0 : BitVec 32 := BitVec.ofNat 32 (i 0).val
  let c2_i32 : BitVec 32 := 2#32
  let v0 : BitVec 32 := Scalar.muli arg0 c2_i32
  let v617 : BitVec 32 := Scalar.addi v0 c0_i32_279
  let v618 : Index := Scalar.indexCast v617
  ![28, v618.toNat]
def k0_off30 (i : grid0.Coords) (c0_i32_289 : BitVec 32) : Fin 2 → Nat :=
  let c29 : Index := 29#32
  let arg0 : BitVec 32 := BitVec.ofNat 32 (i 0).val
  let c2_i32 : BitVec 32 := 2#32
  let v0 : BitVec 32 := Scalar.muli arg0 c2_i32
  let v639 : BitVec 32 := Scalar.addi v0 c0_i32_289
  let v640 : Index := Scalar.indexCast v639
  ![29, v640.toNat]
def k0_off31 (i : grid0.Coords) (c0_i32_299 : BitVec 32) : Fin 2 → Nat :=
  let c30 : Index := 30#32
  let arg0 : BitVec 32 := BitVec.ofNat 32 (i 0).val
  let c2_i32 : BitVec 32 := 2#32
  let v0 : BitVec 32 := Scalar.muli arg0 c2_i32
  let v661 : BitVec 32 := Scalar.addi v0 c0_i32_299
  let v662 : Index := Scalar.indexCast v661
  ![30, v662.toNat]
def k0_off32 (i : grid0.Coords) (c0_i32_309 : BitVec 32) : Fin 2 → Nat :=
  let c31 : Index := 31#32
  let arg0 : BitVec 32 := BitVec.ofNat 32 (i 0).val
  let c2_i32 : BitVec 32 := 2#32
  let v0 : BitVec 32 := Scalar.muli arg0 c2_i32
  let v683 : BitVec 32 := Scalar.addi v0 c0_i32_309
  let v684 : Index := Scalar.indexCast v683
  ![31, v684.toNat]
def k0_off33 (i : grid0.Coords) (c0_i32_319 : BitVec 32) : Fin 2 → Nat :=
  let c32 : Index := 32#32
  let arg0 : BitVec 32 := BitVec.ofNat 32 (i 0).val
  let c2_i32 : BitVec 32 := 2#32
  let v0 : BitVec 32 := Scalar.muli arg0 c2_i32
  let v705 : BitVec 32 := Scalar.addi v0 c0_i32_319
  let v706 : Index := Scalar.indexCast v705
  ![32, v706.toNat]
def k0_off34 (i : grid0.Coords) (c0_i32_329 : BitVec 32) : Fin 2 → Nat :=
  let c33 : Index := 33#32
  let arg0 : BitVec 32 := BitVec.ofNat 32 (i 0).val
  let c2_i32 : BitVec 32 := 2#32
  let v0 : BitVec 32 := Scalar.muli arg0 c2_i32
  let v727 : BitVec 32 := Scalar.addi v0 c0_i32_329
  let v728 : Index := Scalar.indexCast v727
  ![33, v728.toNat]
def k0_off35 (i : grid0.Coords) (c0_i32_339 : BitVec 32) : Fin 2 → Nat :=
  let c34 : Index := 34#32
  let arg0 : BitVec 32 := BitVec.ofNat 32 (i 0).val
  let c2_i32 : BitVec 32 := 2#32
  let v0 : BitVec 32 := Scalar.muli arg0 c2_i32
  let v749 : BitVec 32 := Scalar.addi v0 c0_i32_339
  let v750 : Index := Scalar.indexCast v749
  ![34, v750.toNat]
def k0_off36 (i : grid0.Coords) (c0_i32_349 : BitVec 32) : Fin 2 → Nat :=
  let c35 : Index := 35#32
  let arg0 : BitVec 32 := BitVec.ofNat 32 (i 0).val
  let c2_i32 : BitVec 32 := 2#32
  let v0 : BitVec 32 := Scalar.muli arg0 c2_i32
  let v771 : BitVec 32 := Scalar.addi v0 c0_i32_349
  let v772 : Index := Scalar.indexCast v771
  ![35, v772.toNat]
def k0_off37 (i : grid0.Coords) (c0_i32_359 : BitVec 32) : Fin 2 → Nat :=
  let c36 : Index := 36#32
  let arg0 : BitVec 32 := BitVec.ofNat 32 (i 0).val
  let c2_i32 : BitVec 32 := 2#32
  let v0 : BitVec 32 := Scalar.muli arg0 c2_i32
  let v793 : BitVec 32 := Scalar.addi v0 c0_i32_359
  let v794 : Index := Scalar.indexCast v793
  ![36, v794.toNat]
def k0_off38 (i : grid0.Coords) (c0_i32_369 : BitVec 32) : Fin 2 → Nat :=
  let c37 : Index := 37#32
  let arg0 : BitVec 32 := BitVec.ofNat 32 (i 0).val
  let c2_i32 : BitVec 32 := 2#32
  let v0 : BitVec 32 := Scalar.muli arg0 c2_i32
  let v815 : BitVec 32 := Scalar.addi v0 c0_i32_369
  let v816 : Index := Scalar.indexCast v815
  ![37, v816.toNat]
def k0_off39 (i : grid0.Coords) (c0_i32_379 : BitVec 32) : Fin 2 → Nat :=
  let c38 : Index := 38#32
  let arg0 : BitVec 32 := BitVec.ofNat 32 (i 0).val
  let c2_i32 : BitVec 32 := 2#32
  let v0 : BitVec 32 := Scalar.muli arg0 c2_i32
  let v837 : BitVec 32 := Scalar.addi v0 c0_i32_379
  let v838 : Index := Scalar.indexCast v837
  ![38, v838.toNat]
def k0_off40 (i : grid0.Coords) (c0_i32_389 : BitVec 32) : Fin 2 → Nat :=
  let c39 : Index := 39#32
  let arg0 : BitVec 32 := BitVec.ofNat 32 (i 0).val
  let c2_i32 : BitVec 32 := 2#32
  let v0 : BitVec 32 := Scalar.muli arg0 c2_i32
  let v859 : BitVec 32 := Scalar.addi v0 c0_i32_389
  let v860 : Index := Scalar.indexCast v859
  ![39, v860.toNat]
def k0_off41 (i : grid0.Coords) (c0_i32_438 : BitVec 32) : Fin 2 → Nat :=
  let c0_439 : Index := 0#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v919 : BitVec 32 := Scalar.addi v918 c0_i32_438
  let v920 : Index := Scalar.indexCast v919
  ![0, v920.toNat]
def k0_off42 (i : grid0.Coords) (c0_i32_450 : BitVec 32) : Fin 2 → Nat :=
  let c1_451 : Index := 1#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v941 : BitVec 32 := Scalar.addi v918 c0_i32_450
  let v942 : Index := Scalar.indexCast v941
  ![1, v942.toNat]
def k0_off43 (i : grid0.Coords) (c0_i32_462 : BitVec 32) : Fin 2 → Nat :=
  let c2_463 : Index := 2#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v963 : BitVec 32 := Scalar.addi v918 c0_i32_462
  let v964 : Index := Scalar.indexCast v963
  ![2, v964.toNat]
def k0_off44 (i : grid0.Coords) (c0_i32_474 : BitVec 32) : Fin 2 → Nat :=
  let c3_475 : Index := 3#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v985 : BitVec 32 := Scalar.addi v918 c0_i32_474
  let v986 : Index := Scalar.indexCast v985
  ![3, v986.toNat]
def k0_off45 (i : grid0.Coords) (c0_i32_486 : BitVec 32) : Fin 2 → Nat :=
  let c4_487 : Index := 4#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1007 : BitVec 32 := Scalar.addi v918 c0_i32_486
  let v1008 : Index := Scalar.indexCast v1007
  ![4, v1008.toNat]
def k0_off46 (i : grid0.Coords) (c0_i32_498 : BitVec 32) : Fin 2 → Nat :=
  let c5_499 : Index := 5#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1029 : BitVec 32 := Scalar.addi v918 c0_i32_498
  let v1030 : Index := Scalar.indexCast v1029
  ![5, v1030.toNat]
def k0_off47 (i : grid0.Coords) (c0_i32_510 : BitVec 32) : Fin 2 → Nat :=
  let c6_511 : Index := 6#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1051 : BitVec 32 := Scalar.addi v918 c0_i32_510
  let v1052 : Index := Scalar.indexCast v1051
  ![6, v1052.toNat]
def k0_off48 (i : grid0.Coords) (c0_i32_522 : BitVec 32) : Fin 2 → Nat :=
  let c7_523 : Index := 7#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1073 : BitVec 32 := Scalar.addi v918 c0_i32_522
  let v1074 : Index := Scalar.indexCast v1073
  ![7, v1074.toNat]
def k0_off49 (i : grid0.Coords) (c0_i32_534 : BitVec 32) : Fin 2 → Nat :=
  let c8_535 : Index := 8#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1095 : BitVec 32 := Scalar.addi v918 c0_i32_534
  let v1096 : Index := Scalar.indexCast v1095
  ![8, v1096.toNat]
def k0_off50 (i : grid0.Coords) (c0_i32_546 : BitVec 32) : Fin 2 → Nat :=
  let c9_547 : Index := 9#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1117 : BitVec 32 := Scalar.addi v918 c0_i32_546
  let v1118 : Index := Scalar.indexCast v1117
  ![9, v1118.toNat]
def k0_off51 (i : grid0.Coords) (c0_i32_558 : BitVec 32) : Fin 2 → Nat :=
  let c10_559 : Index := 10#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1139 : BitVec 32 := Scalar.addi v918 c0_i32_558
  let v1140 : Index := Scalar.indexCast v1139
  ![10, v1140.toNat]
def k0_off52 (i : grid0.Coords) (c0_i32_570 : BitVec 32) : Fin 2 → Nat :=
  let c11_571 : Index := 11#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1161 : BitVec 32 := Scalar.addi v918 c0_i32_570
  let v1162 : Index := Scalar.indexCast v1161
  ![11, v1162.toNat]
def k0_off53 (i : grid0.Coords) (c0_i32_582 : BitVec 32) : Fin 2 → Nat :=
  let c12_583 : Index := 12#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1183 : BitVec 32 := Scalar.addi v918 c0_i32_582
  let v1184 : Index := Scalar.indexCast v1183
  ![12, v1184.toNat]
def k0_off54 (i : grid0.Coords) (c0_i32_594 : BitVec 32) : Fin 2 → Nat :=
  let c13_595 : Index := 13#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1205 : BitVec 32 := Scalar.addi v918 c0_i32_594
  let v1206 : Index := Scalar.indexCast v1205
  ![13, v1206.toNat]
def k0_off55 (i : grid0.Coords) (c0_i32_606 : BitVec 32) : Fin 2 → Nat :=
  let c14_607 : Index := 14#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1227 : BitVec 32 := Scalar.addi v918 c0_i32_606
  let v1228 : Index := Scalar.indexCast v1227
  ![14, v1228.toNat]
def k0_off56 (i : grid0.Coords) (c0_i32_618 : BitVec 32) : Fin 2 → Nat :=
  let c15_619 : Index := 15#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1249 : BitVec 32 := Scalar.addi v918 c0_i32_618
  let v1250 : Index := Scalar.indexCast v1249
  ![15, v1250.toNat]
def k0_off57 (i : grid0.Coords) (c0_i32_630 : BitVec 32) : Fin 2 → Nat :=
  let c16_631 : Index := 16#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1271 : BitVec 32 := Scalar.addi v918 c0_i32_630
  let v1272 : Index := Scalar.indexCast v1271
  ![16, v1272.toNat]
def k0_off58 (i : grid0.Coords) (c0_i32_642 : BitVec 32) : Fin 2 → Nat :=
  let c17_643 : Index := 17#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1293 : BitVec 32 := Scalar.addi v918 c0_i32_642
  let v1294 : Index := Scalar.indexCast v1293
  ![17, v1294.toNat]
def k0_off59 (i : grid0.Coords) (c0_i32_654 : BitVec 32) : Fin 2 → Nat :=
  let c18_655 : Index := 18#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1315 : BitVec 32 := Scalar.addi v918 c0_i32_654
  let v1316 : Index := Scalar.indexCast v1315
  ![18, v1316.toNat]
def k0_off60 (i : grid0.Coords) (c0_i32_666 : BitVec 32) : Fin 2 → Nat :=
  let c19_667 : Index := 19#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1337 : BitVec 32 := Scalar.addi v918 c0_i32_666
  let v1338 : Index := Scalar.indexCast v1337
  ![19, v1338.toNat]
def k0_off61 (i : grid0.Coords) (c0_i32_678 : BitVec 32) : Fin 2 → Nat :=
  let c20_679 : Index := 20#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1359 : BitVec 32 := Scalar.addi v918 c0_i32_678
  let v1360 : Index := Scalar.indexCast v1359
  ![20, v1360.toNat]
def k0_off62 (i : grid0.Coords) (c0_i32_690 : BitVec 32) : Fin 2 → Nat :=
  let c21_691 : Index := 21#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1381 : BitVec 32 := Scalar.addi v918 c0_i32_690
  let v1382 : Index := Scalar.indexCast v1381
  ![21, v1382.toNat]
def k0_off63 (i : grid0.Coords) (c0_i32_702 : BitVec 32) : Fin 2 → Nat :=
  let c22_703 : Index := 22#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1403 : BitVec 32 := Scalar.addi v918 c0_i32_702
  let v1404 : Index := Scalar.indexCast v1403
  ![22, v1404.toNat]
def k0_off64 (i : grid0.Coords) (c0_i32_714 : BitVec 32) : Fin 2 → Nat :=
  let c23_715 : Index := 23#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1425 : BitVec 32 := Scalar.addi v918 c0_i32_714
  let v1426 : Index := Scalar.indexCast v1425
  ![23, v1426.toNat]
def k0_off65 (i : grid0.Coords) (c0_i32_726 : BitVec 32) : Fin 2 → Nat :=
  let c24_727 : Index := 24#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1447 : BitVec 32 := Scalar.addi v918 c0_i32_726
  let v1448 : Index := Scalar.indexCast v1447
  ![24, v1448.toNat]
def k0_off66 (i : grid0.Coords) (c0_i32_738 : BitVec 32) : Fin 2 → Nat :=
  let c25_739 : Index := 25#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1469 : BitVec 32 := Scalar.addi v918 c0_i32_738
  let v1470 : Index := Scalar.indexCast v1469
  ![25, v1470.toNat]
def k0_off67 (i : grid0.Coords) (c0_i32_750 : BitVec 32) : Fin 2 → Nat :=
  let c26_751 : Index := 26#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1491 : BitVec 32 := Scalar.addi v918 c0_i32_750
  let v1492 : Index := Scalar.indexCast v1491
  ![26, v1492.toNat]
def k0_off68 (i : grid0.Coords) (c0_i32_762 : BitVec 32) : Fin 2 → Nat :=
  let c27_763 : Index := 27#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1513 : BitVec 32 := Scalar.addi v918 c0_i32_762
  let v1514 : Index := Scalar.indexCast v1513
  ![27, v1514.toNat]
def k0_off69 (i : grid0.Coords) (c0_i32_774 : BitVec 32) : Fin 2 → Nat :=
  let c28_775 : Index := 28#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1535 : BitVec 32 := Scalar.addi v918 c0_i32_774
  let v1536 : Index := Scalar.indexCast v1535
  ![28, v1536.toNat]
def k0_off70 (i : grid0.Coords) (c0_i32_786 : BitVec 32) : Fin 2 → Nat :=
  let c29_787 : Index := 29#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1557 : BitVec 32 := Scalar.addi v918 c0_i32_786
  let v1558 : Index := Scalar.indexCast v1557
  ![29, v1558.toNat]
def k0_off71 (i : grid0.Coords) (c0_i32_798 : BitVec 32) : Fin 2 → Nat :=
  let c30_799 : Index := 30#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1579 : BitVec 32 := Scalar.addi v918 c0_i32_798
  let v1580 : Index := Scalar.indexCast v1579
  ![30, v1580.toNat]
def k0_off72 (i : grid0.Coords) (c0_i32_810 : BitVec 32) : Fin 2 → Nat :=
  let c31_811 : Index := 31#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1601 : BitVec 32 := Scalar.addi v918 c0_i32_810
  let v1602 : Index := Scalar.indexCast v1601
  ![31, v1602.toNat]
def k0_off73 (i : grid0.Coords) (c0_i32_822 : BitVec 32) : Fin 2 → Nat :=
  let c32_823 : Index := 32#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1623 : BitVec 32 := Scalar.addi v918 c0_i32_822
  let v1624 : Index := Scalar.indexCast v1623
  ![32, v1624.toNat]
def k0_off74 (i : grid0.Coords) (c0_i32_834 : BitVec 32) : Fin 2 → Nat :=
  let c33_835 : Index := 33#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1645 : BitVec 32 := Scalar.addi v918 c0_i32_834
  let v1646 : Index := Scalar.indexCast v1645
  ![33, v1646.toNat]
def k0_off75 (i : grid0.Coords) (c0_i32_846 : BitVec 32) : Fin 2 → Nat :=
  let c34_847 : Index := 34#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1667 : BitVec 32 := Scalar.addi v918 c0_i32_846
  let v1668 : Index := Scalar.indexCast v1667
  ![34, v1668.toNat]
def k0_off76 (i : grid0.Coords) (c0_i32_858 : BitVec 32) : Fin 2 → Nat :=
  let c35_859 : Index := 35#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1689 : BitVec 32 := Scalar.addi v918 c0_i32_858
  let v1690 : Index := Scalar.indexCast v1689
  ![35, v1690.toNat]
def k0_off77 (i : grid0.Coords) (c0_i32_870 : BitVec 32) : Fin 2 → Nat :=
  let c36_871 : Index := 36#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1711 : BitVec 32 := Scalar.addi v918 c0_i32_870
  let v1712 : Index := Scalar.indexCast v1711
  ![36, v1712.toNat]
def k0_off78 (i : grid0.Coords) (c0_i32_882 : BitVec 32) : Fin 2 → Nat :=
  let c37_883 : Index := 37#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1733 : BitVec 32 := Scalar.addi v918 c0_i32_882
  let v1734 : Index := Scalar.indexCast v1733
  ![37, v1734.toNat]
def k0_off79 (i : grid0.Coords) (c0_i32_894 : BitVec 32) : Fin 2 → Nat :=
  let c38_895 : Index := 38#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1755 : BitVec 32 := Scalar.addi v918 c0_i32_894
  let v1756 : Index := Scalar.indexCast v1755
  ![38, v1756.toNat]
def k0_off80 (i : grid0.Coords) (c0_i32_906 : BitVec 32) : Fin 2 → Nat :=
  let c39_907 : Index := 39#32
  let c68_i32 : BitVec 32 := 68#32
  let arg0 : BitVec 32 := BitVec.ofNat 32 (i 0).val
  let c2_i32_437 : BitVec 32 := 2#32
  let v917 : BitVec 32 := Scalar.muli arg0 c2_i32_437
  let v918 : BitVec 32 := Scalar.addi c68_i32 v917
  let v1777 : BitVec 32 := Scalar.addi v918 c0_i32_906
  let v1778 : Index := Scalar.indexCast v1777
  ![39, v1778.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c34_i32 : BitVec 32 := 34#32
  let v0 : BitVec 32 := Scalar.addi c34_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1920x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5120x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5120x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S40x136 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1920x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1920x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1920x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateUpRefIdeal.lean ====
abbrev S1920x5120 : Shape := ⟨2, ![1920, 5120]⟩
abbrev S5120x17408 : Shape := ⟨2, ![5120, 17408]⟩
abbrev S40x136 : Shape := ⟨2, ![40, 136]⟩
abbrev S1920x8704 : Shape := ⟨2, ![1920, 8704]⟩
abbrev S34x1920x128 : Shape := ⟨3, ![34, 1920, 128]⟩
abbrev S40x1x136x1 : Shape := ⟨4, ![40, 1, 136, 1]⟩
abbrev S40x128x136x128 : Shape := ⟨4, ![40, 128, 136, 128]⟩
abbrev S1920x17408 : Shape := ⟨2, ![1920, 17408]⟩
abbrev S1920x68x128 : Shape := ⟨3, ![1920, 68, 128]⟩
abbrev S1920x68 : Shape := ⟨2, ![1920, 68]⟩
abbrev S1920x68x1 : Shape := ⟨3, ![1920, 68, 1]⟩
abbrev S1920x68x252 : Shape := ⟨3, ![1920, 68, 252]⟩
abbrev S1920x34x2 : Shape := ⟨3, ![1920, 34, 2]⟩
abbrev S34x1920x2 : Shape := ⟨3, ![34, 1920, 2]⟩
abbrev S34x1920x126 : Shape := ⟨3, ![34, 1920, 126]⟩

abbrev nBuf : Space → Nat
  | .hbm => 6
  | .vmem => 6
  | .smem => 0
  | _ => 0

abbrev bufTy : (tb : Table) → Fin (tcTables nBuf tb) → BufTy
  | .hbm, ⟨0, _⟩ => ⟨S1920x5120, .bf16⟩
  | .hbm, ⟨1, _⟩ => ⟨S5120x17408, .fp8e4m3⟩
  | .hbm, ⟨2, _⟩ => ⟨S40x136, .f32⟩
  | .hbm, ⟨3, _⟩ => ⟨S1920x8704, .fp8e4m3⟩
  | .hbm, ⟨4, _⟩ => ⟨S34x1920x128, .f32⟩
  | .hbm, ⟨5, _⟩ => ⟨S1920x8704, .bf16⟩
  | .local _ .vmem, ⟨0, _⟩ => ⟨S1920x5120, .bf16⟩
  | .local _ .vmem, ⟨1, _⟩ => ⟨S5120x17408, .fp8e4m3⟩
  | .local _ .vmem, ⟨2, _⟩ => ⟨S40x136, .f32⟩
  | .local _ .vmem, ⟨3, _⟩ => ⟨S1920x8704, .fp8e4m3⟩
  | .local _ .vmem, ⟨4, _⟩ => ⟨S34x1920x128, .f32⟩
  | .local _ .vmem, ⟨5, _⟩ => ⟨S1920x8704, .bf16⟩
  | _, _ => ⟨S1920x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1920x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x17408 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x136 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x8704 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S34x1920x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x8704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Linear.lean ====
module

public import Idealize.ShloMosaic.Lib.Pipeline.Value
public import Idealize.ShloMosaic.Lib.Pipeline.ValueKit.Tiles
public import Idealize.ShloMosaic.Lib.MatmulPlain
public import Idealize.ShloMosaic.Lib.ValueIdxCore
public import Idealize.ShloMosaic.PureOps.Ideal.Laws

/-! The block-scaled linear layer over the extended reals: what it computes, entry by entry, and how the pieces a
kernel's body stores (128 by 128 weight tiles, each times its own scale) add up to it. -/

@[expose] public section

set_option maxRecDepth 16384

noncomputable section

namespace Cert.Linear

open Idealize.ShloMosaic Idealize.ShloMosaic.ValueIdx
open scoped BigOperators

/-- A matrix of extended reals. -/
abbrev Mat (M N : ℕ) : Type := (⟨2, ![M, N]⟩ : Shape).Idx → EReal

/-- The dequantised weight: entry `(k, n)` times the scale of its 128 by 128 block. -/
def deq {K N KB NB : ℕ} (hK : K = KB * 128) (hN : N = NB * 128) (w : Mat K N) (s : Mat KB NB) : Mat K N := fun y =>
  w y * s (ix2 ⟨(y 0).val / 128, by have := idx2_lt0 y; omega⟩ ⟨(y 1).val / 128, by have := idx2_lt1 y; omega⟩)

/-- The product of two matrices. -/
def dot {M K N : ℕ} (x : Mat M K) (w : Mat K N) : Mat M N := fun y => ∑ k : Fin K, x (ix2 (y 0) k) * w (ix2 k (y 1))

/-- The dequantised block of 256 weight columns whose first column block is number `nb`. -/
def tile {K KB NB : ℕ} (hK : K = KB * 128) (nb : ℕ) (hnb : nb + 2 ≤ NB) (w : Mat K 256) (s : Mat KB NB) : Mat K 256 := fun y =>
  w y * s (ix2 ⟨(y 0).val / 128, by have := idx2_lt0 y; omega⟩ ⟨nb + (y 1).val / 128, by have := idx2_lt1 y; omega⟩)

/-- One stored tile, a 128 by 128 block of the weight times one scale, is that block of the dequantised columns. -/
theorem tile_piece {K KB NB : ℕ} (hK : K = KB * 128) (nb : ℕ) (hnb : nb + 2 ≤ NB) (w : Mat K 256) (s : Mat KB NB)
    (off : Fin 2 → ℕ) (inb : ∀ a, off a + (![128, 128] : Fin 2 → ℕ) a ≤ (![K, 256] : Fin 2 → ℕ) a)
    (offS : Fin 2 → ℕ) (inbS : ∀ a, offS a + (![1, 1] : Fin 2 → ℕ) a ≤ (![KB, NB] : Fin 2 → ℕ) a)
    (h0 : offS 0 * 128 = off 0) (h1 : offS 1 = nb + off 1 / 128) (h2 : off 1 % 128 = 0)
    (x : (Rect.unit (s := ⟨2, ![K, 256]⟩) off ![128, 128] inb).shape.Idx)
    (z : (Rect.unit (s := ⟨2, ![KB, NB]⟩) offS ![1, 1] inbS).shape.Idx) :
    (w ((Rect.unit (s := ⟨2, ![K, 256]⟩) off ![128, 128] inb).idx x) * s ((Rect.unit (s := ⟨2, ![KB, NB]⟩) offS ![1, 1] inbS).idx z) : EReal)
      = tile hK nb hnb w s ((Rect.unit (s := ⟨2, ![K, 256]⟩) off ![128, 128] inb).emb x) := by
  unfold tile
  refine congrArg₂ (· * ·) rfl (congrArg s (funext fun a => Fin.ext ?_))
  have hx0 : (x 0).val < 128 := (x 0).isLt
  have hx1 : (x 1).val < 128 := (x 1).isLt
  have hz0 : (z 0).val < 1 := (z 0).isLt
  have hz1 : (z 1).val < 1 := (z 1).isLt
  match a with
  | ⟨0, _⟩ =>
    show offS 0 + 1 * (z 0).val = (off 0 + 1 * (x 0).val) / 128
    omega
  | ⟨1, _⟩ =>
    show offS 1 + 1 * (z 1).val = nb + (off 1 + 1 * (x 1).val) / 128
    omega

/-- A matrix product onto the zero accumulator, read at an entry. -/
theorem matmul_zero {M K N : ℕ} {φ₁ φ₂ : FTy} (prec : Option ContractPrecision) (x : FVec Ideal ⟨2, ![M, K]⟩ φ₁)
    (w : FVec Ideal ⟨2, ![K, N]⟩ φ₂) (y : (⟨2, ![M, N]⟩ : Shape).Idx) :
    FloatOps.matmul (DotDims.plain M K N) prec x w (constant ⟨2, ![M, N]⟩ .f32 0x00000000#32) y = dot x w y := by
  refine (congrArg (FloatOps.matmul (DotDims.plain M K N) prec x w (constant ⟨2, ![M, N]⟩ .f32 0x00000000#32)) (eq_ix2 y)).trans
    ((Ideal.matmul_plain_apply prec x w _ (y 0) (y 1)).trans ?_)
  show Ideal.ofBits .f32 0x00000000#32 + dot x w y = dot x w y
  rw [Ideal.ofBits_zero_f32, zero_add]

/-- A block of rows times a matrix is that block of rows of the whole product. -/
theorem dot_rows {M K N R : ℕ} {φ₁ φ₂ : FTy} (prec : Option ContractPrecision) (x : FVec Ideal ⟨2, ![M, K]⟩ φ₁)
    (w : FVec Ideal ⟨2, ![K, N]⟩ φ₂) (a : ℕ)
    (inb : ∀ b, (![a, 0] : Fin 2 → ℕ) b + (![R, K] : Fin 2 → ℕ) b ≤ (![M, K] : Fin 2 → ℕ) b)
    (inb' : ∀ b, (![a, 0] : Fin 2 → ℕ) b + (![R, N] : Fin 2 → ℕ) b ≤ (![M, N] : Fin 2 → ℕ) b)
    (y : (Rect.unit (s := ⟨2, ![M, N]⟩) ![a, 0] ![R, N] inb').shape.Idx) :
    FloatOps.matmul (DotDims.plain R K N) prec
        (fun z => x ((Rect.unit (s := ⟨2, ![M, K]⟩) ![a, 0] ![R, K] inb).idx z)) w
        (constant ⟨2, ![R, N]⟩ .f32 0x00000000#32) y
      = dot x w ((Rect.unit (s := ⟨2, ![M, N]⟩) ![a, 0] ![R, N] inb').emb y) := by
  refine (matmul_zero (M := R) (K := K) (N := N) prec _ w y).trans ?_
  refine Finset.sum_congr rfl fun k _ => congrArg₂ (· * ·) (congrArg x ?_) (congrArg w ?_)
  · funext b; apply Fin.ext
    match b with
    | ⟨0, _⟩ => rfl
    | ⟨1, _⟩ => show 0 + 1 * k.val = k.val; omega
  · funext b; apply Fin.ext
    match b with
    | ⟨0, _⟩ => rfl
    | ⟨1, _⟩ => show (y 1).val = 0 + 1 * (y 1).val; omega

/-- A row-major position of the matrix, written by block numbers and places inside a block. -/
theorem blocks_eq {N NB : ℕ} (hN : N = NB * 128) (a b : ℕ) :
    ((a / 128 * 128 + a % 128) * NB + b / 128) * 128 + b % 128 = a * N + b := by
  have a0 : a / 128 * 128 + a % 128 = a := by omega
  have a1 : b / 128 * 128 + b % 128 = b := by omega
  rw [a0, hN, Nat.add_mul, Nat.add_assoc, a1, Nat.mul_assoc]

/-- The scales spread over their 128 by 128 blocks, read at an entry. -/
theorem spread_apply {K N KB NB : ℕ} (hK : K = KB * 128) (hN : N = NB * 128) (s : Mat KB NB)
    (h1 : (⟨2, ![KB, NB]⟩ : Shape).ShapeCasts ⟨4, ![KB, 1, NB, 1]⟩)
    (h2 : (⟨4, ![KB, 1, NB, 1]⟩ : Shape).ShapeCasts ⟨4, ![KB, 1, NB, 1]⟩)
    (h3 : (⟨4, ![KB, 1, NB, 1]⟩ : Shape).Broadcasts ⟨4, ![KB, 128, NB, 128]⟩)
    (h4 : (⟨4, ![KB, 128, NB, 128]⟩ : Shape).ShapeCasts ⟨2, ![K, N]⟩) (y : (⟨2, ![K, N]⟩ : Shape).Idx) :
    shapeCast ⟨2, ![K, N]⟩ (broadcastTo ⟨4, ![KB, 128, NB, 128]⟩
        (shapeCast ⟨4, ![KB, 1, NB, 1]⟩ (shapeCast ⟨4, ![KB, 1, NB, 1]⟩ s h1) h2) h3) h4 y
      = s (ix2 ⟨(y 0).val / 128, by have := idx2_lt0 y; omega⟩ ⟨(y 1).val / 128, by have := idx2_lt1 y; omega⟩) := by
  have e0 := idx2_lt0 y
  have e1 := idx2_lt1 y
  rw [shapeCast_self]
  refine (shapeCast_apply _ _ _ (ix4 ⟨(y 0).val / 128, by omega⟩ ⟨(y 0).val % 128, by omega⟩ ⟨(y 1).val / 128, by omega⟩
    ⟨(y 1).val % 128, by omega⟩) ?_).trans ((broadcastTo_apply _ _ _ (ix4 ⟨(y 0).val / 128, by omega⟩ ⟨0, by omega⟩
    ⟨(y 1).val / 128, by omega⟩ ⟨0, by omega⟩) ?_).trans (shapeCast_apply _ _ _ _ ?_))
  · rw [Shape.rowMajor_val_four, Shape.rowMajor_val_two]
    show ((((y 0).val / 128) * 128 + (y 0).val % 128) * NB + (y 1).val / 128) * 128 + (y 1).val % 128 = (y 0).val * N + (y 1).val
    exact blocks_eq hN _ _
  · intro a
    match a with
    | ⟨0, _⟩ => show (y 0).val / 128 = if KB = 1 then 0 else (y 0).val / 128; split <;> omega
    | ⟨1, _⟩ => rfl
    | ⟨2, _⟩ => show (y 1).val / 128 = if NB = 1 then 0 else (y 1).val / 128; split <;> omega
    | ⟨3, _⟩ => rfl
  · rw [Shape.rowMajor_val_four, Shape.rowMajor_val_two]
    show (y 0).val / 128 * NB + (y 1).val / 128 = (((y 0).val / 128 * 1 + 0) * NB + (y 1).val / 128) * 1 + 0
    simp

end Cert.Linear

end
-- ==== Proof.DownValue.lean ====
module

public import proofs.«01_k».proof.Proof.Gen.DownIdeal.Value
public import proofs.«01_k».proof.Proof.Gen.DownRefIdeal.Value
public import proofs.«01_k».proof.Proof.Linear
public import Idealize.ShloMosaic.Lib.Pointwise

/-! The feed-forward block's down projection with its residual: the kernel's result array and the reference's are one function of
the arguments. -/

@[expose] public section

set_option maxRecDepth 16384

noncomputable section

namespace Cert.DownIdeal.Rows

open Cert.DownIdeal Cert.DownIdeal.Gen Idealize.ShloMosaic Idealize.ShloMosaic.TcCoe Idealize.SL.Sem
open Idealize.ShloMosaic.ValueIdx
open Idealize.ShloMosaic.Pipeline (Dat)
open Cert.Linear

/-- A pair of zero offsets. -/
theorem hz : (![0, 0] : Fin 2 → Nat) = fun _ => 0 := funext fun a => by fin_cases a <;> rfl

/-- The column block of the scales that a grid point's left tile reads. -/
theorem col0 (i : grid0.Coords) :
    (Scalar.indexCast (Scalar.addi (Scalar.muli (BitVec.ofNat 32 (i 0).val) 2#32) 0#32)).toNat = 2 * (i 0).val + 0 / 128 :=
  (by decide +kernel : ∀ j : Fin 20,
    (Scalar.indexCast (Scalar.addi (Scalar.muli (BitVec.ofNat 32 j.val) 2#32) 0#32)).toNat = 2 * j.val + 0 / 128) (i 0)

/-- The column block of the scales that a grid point's right tile reads. -/
theorem col1 (i : grid0.Coords) :
    (Scalar.indexCast (Scalar.addi (Scalar.muli (BitVec.ofNat 32 (i 0).val) 2#32) 1#32)).toNat = 2 * (i 0).val + 128 / 128 :=
  (by decide +kernel : ∀ j : Fin 20,
    (Scalar.indexCast (Scalar.addi (Scalar.muli (BitVec.ofNat 32 j.val) 2#32) 1#32)).toNat = 2 * j.val + 128 / 128) (i 0)

/-- A grid point's two column blocks are inside the scales. -/
theorem nb_le (i : grid0.Coords) : 2 * (i 0).val + 2 ≤ 40 := (by decide +kernel : ∀ j : Fin 20, 2 * j.val + 2 ≤ 40) (i 0)

set_option maxHeartbeats 4000000 in
/-- The weight scratch, after its 136 tiles are stored, read whole: the dequantised columns of the grid point. -/
theorem weight (c : Dev nD) (i : grid0.Coords) (arg2 : Memref sig .tc .vmem S8704x256 .fp8e4m3) (harg2 : arg2.IsWhole)
    (arg3 : Memref sig .tc .smem S68x40 .f32) (harg3 : arg3.IsWhole) (arg6 : Memref sig .tc .vmem S8704x256 .bf16)
    (x1 : Vec Ideal S8704x256 .fp8e4m3) (x2 : Vec Ideal S68x40 .f32) :
    kernelRun0_A.sl.v1512 (F := Ideal) c i arg2 harg2 arg3 harg3 arg6 x1 x2
      = tile (K := 8704) (KB := 68) (NB := 40) rfl (2 * (i 0).val) (nb_le i) x1 x2 := by
  unfold kernelRun0_A.sl.v1512
  sl_unfold_words
  refine (View.readCov_eq_canon_ld _ _ _ ?hc).trans ?_
  case hc => exact View.cover_of_tiled _ S128x128.size rfl
  rw [View.ld_unit_zero hz]
  unfold_payloads
  simp only [View.readAt_eq_ld, harg2.read_unread, harg3.read_unread, shapeCast_self]
  funext y
  refine View.canon_apply_of_pieces _ _ ?_ y ?hc
  case hc => revert y; exact View.cover_of_tiled _ S128x128.size rfl
  repeat' refine List.forall_mem_cons.2 ⟨?_, ?_⟩
  all_goals first
    | exact fun x => tile_piece (KB := 68) (NB := 40) rfl (2 * (i 0).val) (nb_le i) x1 x2 _ _ _ _ rfl
        (by first | exact col0 i | exact col1 i) rfl x _
    | exact List.forall_mem_nil _

/-- The same scratch as the first two row blocks read it. -/
theorem weight' (c : Dev nD) (i : grid0.Coords) (arg2 : Memref sig .tc .vmem S8704x256 .fp8e4m3) (harg2 : arg2.IsWhole)
    (arg3 : Memref sig .tc .smem S68x40 .f32) (harg3 : arg3.IsWhole) (arg6 : Memref sig .tc .vmem S8704x256 .bf16)
    (x1 : Vec Ideal S8704x256 .fp8e4m3) (x2 : Vec Ideal S68x40 .f32) :
    kernelRun0_A.sl.v1498 (F := Ideal) c i arg2 harg2 arg3 harg3 arg6 x1 x2
      = tile (K := 8704) (KB := 68) (NB := 40) rfl (2 * (i 0).val) (nb_le i) x1 x2 :=
  weight c i arg2 harg2 arg3 harg3 arg6 x1 x2

/-- What the body leaves in the output block: residual plus rows times dequantised columns. -/
theorem out_eq (c : Dev nD) (i : grid0.Coords) (arg1 : Memref sig .tc .vmem S1920x8704 .bf16) (harg1 : arg1.IsWhole) (arg2 : Memref sig .tc .vmem S8704x256 .fp8e4m3) (harg2 : arg2.IsWhole) (arg3 : Memref sig .tc .smem S68x40 .f32) (harg3 : arg3.IsWhole) (arg4 : Memref sig .tc .vmem S1920x256 .f32) (harg4 : arg4.IsWhole) (arg5 : Memref sig .tc .vmem S1920x256 .bf16) (harg5 : arg5.IsWhole) (arg6 : Memref sig .tc .vmem S8704x256 .bf16) (harg6 : arg6.IsWhole)
    (x0 : Vec Ideal S1920x8704 .bf16) (x1 : Vec Ideal S8704x256 .fp8e4m3) (x2 : Vec Ideal S68x40 .f32) (x3 : Vec Ideal S1920x256 .f32) :
    out0_A_4 (F := Ideal) c i arg1 harg1 arg2 harg2 arg3 harg3 arg4 harg4 arg5 harg5 arg6 harg6 x0 x1 x2 x3
      = fun y => (x3 y : EReal) + dot (M := 1920) (K := 8704) (N := 256) x0
          (tile (K := 8704) (KB := 68) (NB := 40) rfl (2 * (i 0).val) (nb_le i) x1 x2) y := by
  unfold out0_A_4
  rw [View.read_writes_eq_canon _ _ _ (cover0_A_4 c i arg1 harg1 arg2 harg2 arg3 harg3 arg4 harg4 arg5 harg5 arg6 harg6 x0 x1 x2 x3)]
  funext y
  refine View.canon_apply_of_pieces (fun y => (x3 y : EReal) + dot (M := 1920) (K := 8704) (N := 256) x0
          (tile (K := 8704) (KB := 68) (NB := 40) rfl (2 * (i 0).val) (nb_le i) x1 x2) y) _ ?_ y
    (cover0_A_4 c i arg1 harg1 arg2 harg2 arg3 harg3 arg4 harg4 arg5 harg5 arg6 harg6 x0 x1 x2 x3 y)
  unfold kernelRun0_A
  dsimp only
  unfold kernelRun0_A.sl.r_162 kernelRun0_A.sl.r_163 kernelRun0_A.sl.r_164
  simp only [weight, weight', View.readAt_eq_ld, harg1.read_unread, harg4.read_unread]
  unfold_payloads
  repeat' refine List.forall_mem_cons.2 ⟨?_, ?_⟩
  all_goals first
    | exact List.forall_mem_nil _
    | (refine fun x => congrArg₂ (· + ·) rfl (dot_rows (M := 1920) (K := 8704) (N := 256) (R := 480) none x0 _ _ _ ?_ x)
       decide)

/-- The whole result: residual plus the product with the dequantised weight. -/
def G (a0 : Vec Ideal S1920x8704 .bf16) (a1 : Vec Ideal S8704x5120 .fp8e4m3) (a2 : Vec Ideal S68x40 .f32)
    (a3 : Vec Ideal S1920x5120 .f32) : Vec Ideal S1920x5120 .bf16 := fun y =>
  (a3 y : EReal) + dot (M := 1920) (K := 8704) (N := 5120) a0 (deq (KB := 68) (NB := 40) rfl rfl a1 a2) y

variable (m : (ℓ : Loc nD τ sig) → Buf (Elt Ideal) ℓ) (ρ : Dev nD → PrngReg)

/-- Where the windows' blocks sit at a grid point. -/
theorem idx_facts : ∀ t : Fin cfg0.N,
    win0_0.index t (0 : Fin 2) = 0 ∧ win0_0.index t (1 : Fin 2) = 0 ∧ win0_1.index t (0 : Fin 2) = 0
      ∧ win0_1.index t (1 : Fin 2) = (grid0.coords t 0).val ∧ win0_2.index t (0 : Fin 2) = 0 ∧ win0_2.index t (1 : Fin 2) = 0
      ∧ win0_3.index t (0 : Fin 2) = 0 ∧ win0_3.index t (1 : Fin 2) = (grid0.coords t 0).val
      ∧ win0_4.index t (0 : Fin 2) = 0 ∧ win0_4.index t (1 : Fin 2) = (grid0.coords t 0).val :=
  (by decide +kernel : ∀ t : Fin grid0.N, _)

/-- What a grid point writes back is its block of `G`. -/
theorem flushed_eq (c : Dev nD) (t : Fin cfg0.N) :
    (dats m 0 c).flushed 4 t = ((cfg0.win 4).blk t).view.read (Elt Ideal)
      (G (V m c main_arg0) (V m c main_arg1) (V m c main_arg2) (V m c main_arg3)) := by
  rw [Value.flushed4_A, out_eq]
  obtain ⟨e00, e01, e10, e11, e20, e21, e30, e31, e40, e41⟩ := idx_facts t
  funext j
  have hj0 : (j 0).val < 1920 := (j 0).isLt
  have hj1 : (j 1).val < 256 := (j 1).isLt
  refine congrArg₂ (· + ·) (congrArg (V m c main_arg3) (funext fun a => Fin.ext ?_))
    (Finset.sum_congr rfl fun k _ => congrArg₂ (· * ·) (congrArg (V m c main_arg0) (funext fun a => Fin.ext ?_))
      (congrArg₂ (· * ·) (congrArg (V m c main_arg1) (funext fun a => Fin.ext ?_))
        (congrArg (V m c main_arg2) (funext fun a => Fin.ext ?_))))
  · match a with
    | ⟨0, _⟩ => show win0_3.index t (0 : Fin 2) * 1920 + 1 * (j 0).val = win0_4.index t (0 : Fin 2) * 1920 + 1 * (j 0).val; omega
    | ⟨1, _⟩ => show win0_3.index t (1 : Fin 2) * 256 + 1 * (j 1).val = win0_4.index t (1 : Fin 2) * 256 + 1 * (j 1).val; omega
  · match a with
    | ⟨0, _⟩ => show win0_0.index t (0 : Fin 2) * 1920 + 1 * (j 0).val = win0_4.index t (0 : Fin 2) * 1920 + 1 * (j 0).val; omega
    | ⟨1, _⟩ => show win0_0.index t (1 : Fin 2) * 8704 + 1 * k.val = k.val; omega
  · match a with
    | ⟨0, _⟩ => show win0_1.index t (0 : Fin 2) * 8704 + 1 * k.val = k.val; omega
    | ⟨1, _⟩ => show win0_1.index t (1 : Fin 2) * 256 + 1 * (j 1).val = win0_4.index t (1 : Fin 2) * 256 + 1 * (j 1).val; omega
  · match a with
    | ⟨0, _⟩ => show win0_2.index t (0 : Fin 2) * 68 + 1 * (k.val / 128) = k.val / 128; omega
    | ⟨1, _⟩ =>
      show win0_2.index t (1 : Fin 2) * 40 + 1 * (2 * (grid0.coords t 0).val + (j 1).val / 128)
        = (win0_4.index t (1 : Fin 2) * 256 + 1 * (j 1).val) / 128
      omega

/-- Every grid column is some grid point's. -/
theorem point_of (q : ℕ) (hq : q < 20) : ∃ t : Fin cfg0.N, win0_4.index t (1 : Fin 2) = q :=
  (by decide +kernel : ∀ q : Fin 20, ∃ t : Fin grid0.N, win0_4.index t (1 : Fin 2) = q.val) ⟨q, hq⟩

/-- Every index of the result is in some grid point's block. -/
theorem covered (i : S1920x5120.Idx) : ∃ t : Fin cfg0.N, (cfg0.win 4).flush t = true ∧ i ∈ ((cfg0.win 4).blk t).view.set := by
  have h0 : (i 0).val < 1920 := (i 0).isLt
  have h1 : (i 1).val < 5120 := (i 1).isLt
  obtain ⟨t, ht⟩ := point_of ((i 1).val / 256) (by omega)
  obtain ⟨-, -, -, -, -, -, -, -, e40, -⟩ := idx_facts t
  refine ⟨t, flush0_4 t, ?_⟩
  rw [View.set_slice_whole, Rect.mem_set_unit]
  intro a
  match a with
  | ⟨0, _⟩ =>
    show win0_4.index t (0 : Fin 2) * 1920 ≤ (i 0).val ∧ (i 0).val < win0_4.index t (0 : Fin 2) * 1920 + 1920
    omega
  | ⟨1, _⟩ =>
    show win0_4.index t (1 : Fin 2) * 256 ≤ (i 1).val ∧ (i 1).val < win0_4.index t (1 : Fin 2) * 256 + 256
    omega

/-- The result array after the run is `G` of the arguments. -/
theorem final (c : Dev nD) : (dats m 0 c).arrAt 4 cfg0.N
    = G (m ((c : Thread nD τ).loc main_arg0)) (m ((c : Thread nD τ).loc main_arg1)) (m ((c : Thread nD τ).loc main_arg2))
        (m ((c : Thread nD τ).loc main_arg3)) :=
  ((dats m 0 c).arrAt_eq_of_cover 4 (G (V m c main_arg0) (V m c main_arg1) (V m c main_arg2) (V m c main_arg3))
    (fun t _ => flushed_eq m c t) covered).trans (by rw [V_main_arg0, V_main_arg1, V_main_arg2, V_main_arg3])

/-- The reference's result is `G` of the same arguments. -/
theorem ref_eq (a0 : Vec Ideal S1920x8704 .bf16) (a1 : Vec Ideal S8704x5120 .fp8e4m3) (a2 : Vec Ideal S68x40 .f32)
    (a3 : Vec Ideal S1920x5120 .f32) : Cert.DownRefIdeal.Value.G4 (F := Ideal) a0 a1 a2 a3 = G a0 a1 a2 a3 := by
  funext y
  refine congrArg₂ (· + ·) rfl ((matmul_zero (M := 1920) (K := 8704) (N := 5120) none a0 _ y).trans ?_)
  refine Finset.sum_congr rfl fun k _ => congrArg₂ (· * ·) rfl (congrArg₂ (· * ·) rfl ?_)
  exact spread_apply (K := 8704) (N := 5120) (KB := 68) (NB := 40) rfl rfl a2 _ _ _ _ _

end Cert.DownIdeal.Rows

end
-- ==== Proof.OutValue.lean ====
module

public import proofs.«01_k».proof.Proof.Gen.OutIdeal.Value
public import proofs.«01_k».proof.Proof.Gen.OutRefIdeal.Value
public import proofs.«01_k».proof.Proof.Linear
public import Idealize.ShloMosaic.Lib.Pointwise

/-! The attention output projection with its residual: the kernel's result array and the reference's are one function of
the arguments. -/

@[expose] public section

set_option maxRecDepth 16384

noncomputable section

namespace Cert.OutIdeal.Rows

open Cert.OutIdeal Cert.OutIdeal.Gen Idealize.ShloMosaic Idealize.ShloMosaic.TcCoe Idealize.SL.Sem
open Idealize.ShloMosaic.ValueIdx
open Idealize.ShloMosaic.Pipeline (Dat)
open Cert.Linear

/-- A pair of zero offsets. -/
theorem hz : (![0, 0] : Fin 2 → Nat) = fun _ => 0 := funext fun a => by fin_cases a <;> rfl

/-- The column block of the scales that a grid point's left tile reads. -/
theorem col0 (i : grid0.Coords) :
    (Scalar.indexCast (Scalar.addi (Scalar.muli (BitVec.ofNat 32 (i 0).val) 2#32) 0#32)).toNat = 2 * (i 0).val + 0 / 128 :=
  (by decide +kernel : ∀ j : Fin 20,
    (Scalar.indexCast (Scalar.addi (Scalar.muli (BitVec.ofNat 32 j.val) 2#32) 0#32)).toNat = 2 * j.val + 0 / 128) (i 0)

/-- The column block of the scales that a grid point's right tile reads. -/
theorem col1 (i : grid0.Coords) :
    (Scalar.indexCast (Scalar.addi (Scalar.muli (BitVec.ofNat 32 (i 0).val) 2#32) 1#32)).toNat = 2 * (i 0).val + 128 / 128 :=
  (by decide +kernel : ∀ j : Fin 20,
    (Scalar.indexCast (Scalar.addi (Scalar.muli (BitVec.ofNat 32 j.val) 2#32) 1#32)).toNat = 2 * j.val + 128 / 128) (i 0)

/-- A grid point's two column blocks are inside the scales. -/
theorem nb_le (i : grid0.Coords) : 2 * (i 0).val + 2 ≤ 40 := (by decide +kernel : ∀ j : Fin 20, 2 * j.val + 2 ≤ 40) (i 0)

/-- The weight scratch, after its 48 tiles are stored, read whole: the dequantised columns of the grid point. -/
theorem weight (c : Dev nD) (i : grid0.Coords) (arg2 : Memref sig .tc .vmem S3072x256 .fp8e4m3) (harg2 : arg2.IsWhole)
    (arg3 : Memref sig .tc .smem S24x40 .f32) (harg3 : arg3.IsWhole) (arg6 : Memref sig .tc .vmem S3072x256 .bf16)
    (x1 : Vec Ideal S3072x256 .fp8e4m3) (x2 : Vec Ideal S24x40 .f32) :
    kernelRun0_A.sl.v544 (F := Ideal) c i arg2 harg2 arg3 harg3 arg6 x1 x2
      = tile (K := 3072) (KB := 24) (NB := 40) rfl (2 * (i 0).val) (nb_le i) x1 x2 := by
  unfold kernelRun0_A.sl.v544
  sl_unfold_words
  refine (View.readCov_eq_canon_ld _ _ _ ?hc).trans ?_
  case hc => exact View.cover_of_tiled _ S128x128.size rfl
  rw [View.ld_unit_zero hz]
  unfold_payloads
  simp only [View.readAt_eq_ld, harg2.read_unread, harg3.read_unread, shapeCast_self]
  funext y
  refine View.canon_apply_of_pieces _ _ ?_ y ?hc
  case hc => revert y; exact View.cover_of_tiled _ S128x128.size rfl
  repeat' refine List.forall_mem_cons.2 ⟨?_, ?_⟩
  all_goals first
    | exact fun x => tile_piece (KB := 24) (NB := 40) rfl (2 * (i 0).val) (nb_le i) x1 x2 _ _ _ _ rfl
        (by first | exact col0 i | exact col1 i) rfl x _
    | exact List.forall_mem_nil _

/-- The same scratch as the first two row blocks read it. -/
theorem weight' (c : Dev nD) (i : grid0.Coords) (arg2 : Memref sig .tc .vmem S3072x256 .fp8e4m3) (harg2 : arg2.IsWhole)
    (arg3 : Memref sig .tc .smem S24x40 .f32) (harg3 : arg3.IsWhole) (arg6 : Memref sig .tc .vmem S3072x256 .bf16)
    (x1 : Vec Ideal S3072x256 .fp8e4m3) (x2 : Vec Ideal S24x40 .f32) :
    kernelRun0_A.sl.v530 (F := Ideal) c i arg2 harg2 arg3 harg3 arg6 x1 x2
      = tile (K := 3072) (KB := 24) (NB := 40) rfl (2 * (i 0).val) (nb_le i) x1 x2 :=
  weight c i arg2 harg2 arg3 harg3 arg6 x1 x2

/-- What the body leaves in the output block: residual plus rows times dequantised columns. -/
theorem out_eq (c : Dev nD) (i : grid0.Coords) (arg1 : Memref sig .tc .vmem S1920x3072 .bf16) (harg1 : arg1.IsWhole) (arg2 : Memref sig .tc .vmem S3072x256 .fp8e4m3) (harg2 : arg2.IsWhole) (arg3 : Memref sig .tc .smem S24x40 .f32) (harg3 : arg3.IsWhole) (arg4 : Memref sig .tc .vmem S1920x256 .bf16) (harg4 : arg4.IsWhole) (arg5 : Memref sig .tc .vmem S1920x256 .f32) (harg5 : arg5.IsWhole) (arg6 : Memref sig .tc .vmem S3072x256 .bf16) (harg6 : arg6.IsWhole)
    (x0 : Vec Ideal S1920x3072 .bf16) (x1 : Vec Ideal S3072x256 .fp8e4m3) (x2 : Vec Ideal S24x40 .f32) (x3 : Vec Ideal S1920x256 .bf16) :
    out0_A_4 (F := Ideal) c i arg1 harg1 arg2 harg2 arg3 harg3 arg4 harg4 arg5 harg5 arg6 harg6 x0 x1 x2 x3
      = fun y => (x3 y : EReal) + dot (M := 1920) (K := 3072) (N := 256) x0
          (tile (K := 3072) (KB := 24) (NB := 40) rfl (2 * (i 0).val) (nb_le i) x1 x2) y := by
  unfold out0_A_4
  rw [View.read_writes_eq_canon _ _ _ (cover0_A_4 c i arg1 harg1 arg2 harg2 arg3 harg3 arg4 harg4 arg5 harg5 arg6 harg6 x0 x1 x2 x3)]
  funext y
  refine View.canon_apply_of_pieces (fun y => (x3 y : EReal) + dot (M := 1920) (K := 3072) (N := 256) x0
          (tile (K := 3072) (KB := 24) (NB := 40) rfl (2 * (i 0).val) (nb_le i) x1 x2) y) _ ?_ y
    (cover0_A_4 c i arg1 harg1 arg2 harg2 arg3 harg3 arg4 harg4 arg5 harg5 arg6 harg6 x0 x1 x2 x3 y)
  unfold kernelRun0_A
  dsimp only
  unfold kernelRun0_A.sl.r_57
  simp only [weight, weight', View.readAt_eq_ld, harg1.read_unread, harg4.read_unread]
  unfold_payloads
  repeat' refine List.forall_mem_cons.2 ⟨?_, ?_⟩
  all_goals first
    | exact List.forall_mem_nil _
    | (refine fun x => congrArg₂ (· + ·) rfl (dot_rows (M := 1920) (K := 3072) (N := 256) (R := 480) none x0 _ _ _ ?_ x)
       decide)

/-- The whole result: residual plus the product with the dequantised weight. -/
def G (a0 : Vec Ideal S1920x3072 .bf16) (a1 : Vec Ideal S3072x5120 .fp8e4m3) (a2 : Vec Ideal S24x40 .f32)
    (a3 : Vec Ideal S1920x5120 .bf16) : Vec Ideal S1920x5120 .f32 := fun y =>
  (a3 y : EReal) + dot (M := 1920) (K := 3072) (N := 5120) a0 (deq (KB := 24) (NB := 40) rfl rfl a1 a2) y

variable (m : (ℓ : Loc nD τ sig) → Buf (Elt Ideal) ℓ) (ρ : Dev nD → PrngReg)

/-- Where the windows' blocks sit at a grid point. -/
theorem idx_facts : ∀ t : Fin cfg0.N,
    win0_0.index t (0 : Fin 2) = 0 ∧ win0_0.index t (1 : Fin 2) = 0 ∧ win0_1.index t (0 : Fin 2) = 0
      ∧ win0_1.index t (1 : Fin 2) = (grid0.coords t 0).val ∧ win0_2.index t (0 : Fin 2) = 0 ∧ win0_2.index t (1 : Fin 2) = 0
      ∧ win0_3.index t (0 : Fin 2) = 0 ∧ win0_3.index t (1 : Fin 2) = (grid0.coords t 0).val
      ∧ win0_4.index t (0 : Fin 2) = 0 ∧ win0_4.index t (1 : Fin 2) = (grid0.coords t 0).val :=
  (by decide +kernel : ∀ t : Fin grid0.N, _)

/-- What a grid point writes back is its block of `G`. -/
theorem flushed_eq (c : Dev nD) (t : Fin cfg0.N) :
    (dats m 0 c).flushed 4 t = ((cfg0.win 4).blk t).view.read (Elt Ideal)
      (G (V m c main_arg0) (V m c main_arg1) (V m c main_arg2) (V m c main_arg3)) := by
  rw [Value.flushed4_A, out_eq]
  obtain ⟨e00, e01, e10, e11, e20, e21, e30, e31, e40, e41⟩ := idx_facts t
  funext j
  have hj0 : (j 0).val < 1920 := (j 0).isLt
  have hj1 : (j 1).val < 256 := (j 1).isLt
  refine congrArg₂ (· + ·) (congrArg (V m c main_arg3) (funext fun a => Fin.ext ?_))
    (Finset.sum_congr rfl fun k _ => congrArg₂ (· * ·) (congrArg (V m c main_arg0) (funext fun a => Fin.ext ?_))
      (congrArg₂ (· * ·) (congrArg (V m c main_arg1) (funext fun a => Fin.ext ?_))
        (congrArg (V m c main_arg2) (funext fun a => Fin.ext ?_))))
  · match a with
    | ⟨0, _⟩ => show win0_3.index t (0 : Fin 2) * 1920 + 1 * (j 0).val = win0_4.index t (0 : Fin 2) * 1920 + 1 * (j 0).val; omega
    | ⟨1, _⟩ => show win0_3.index t (1 : Fin 2) * 256 + 1 * (j 1).val = win0_4.index t (1 : Fin 2) * 256 + 1 * (j 1).val; omega
  · match a with
    | ⟨0, _⟩ => show win0_0.index t (0 : Fin 2) * 1920 + 1 * (j 0).val = win0_4.index t (0 : Fin 2) * 1920 + 1 * (j 0).val; omega
    | ⟨1, _⟩ => show win0_0.index t (1 : Fin 2) * 3072 + 1 * k.val = k.val; omega
  · match a with
    | ⟨0, _⟩ => show win0_1.index t (0 : Fin 2) * 3072 + 1 * k.val = k.val; omega
    | ⟨1, _⟩ => show win0_1.index t (1 : Fin 2) * 256 + 1 * (j 1).val = win0_4.index t (1 : Fin 2) * 256 + 1 * (j 1).val; omega
  · match a with
    | ⟨0, _⟩ => show win0_2.index t (0 : Fin 2) * 24 + 1 * (k.val / 128) = k.val / 128; omega
    | ⟨1, _⟩ =>
      show win0_2.index t (1 : Fin 2) * 40 + 1 * (2 * (grid0.coords t 0).val + (j 1).val / 128)
        = (win0_4.index t (1 : Fin 2) * 256 + 1 * (j 1).val) / 128
      omega

/-- Every grid column is some grid point's. -/
theorem point_of (q : ℕ) (hq : q < 20) : ∃ t : Fin cfg0.N, win0_4.index t (1 : Fin 2) = q :=
  (by decide +kernel : ∀ q : Fin 20, ∃ t : Fin grid0.N, win0_4.index t (1 : Fin 2) = q.val) ⟨q, hq⟩

/-- Every index of the result is in some grid point's block. -/
theorem covered (i : S1920x5120.Idx) : ∃ t : Fin cfg0.N, (cfg0.win 4).flush t = true ∧ i ∈ ((cfg0.win 4).blk t).view.set := by
  have h0 : (i 0).val < 1920 := (i 0).isLt
  have h1 : (i 1).val < 5120 := (i 1).isLt
  obtain ⟨t, ht⟩ := point_of ((i 1).val / 256) (by omega)
  obtain ⟨-, -, -, -, -, -, -, -, e40, -⟩ := idx_facts t
  refine ⟨t, flush0_4 t, ?_⟩
  rw [View.set_slice_whole, Rect.mem_set_unit]
  intro a
  match a with
  | ⟨0, _⟩ =>
    show win0_4.index t (0 : Fin 2) * 1920 ≤ (i 0).val ∧ (i 0).val < win0_4.index t (0 : Fin 2) * 1920 + 1920
    omega
  | ⟨1, _⟩ =>
    show win0_4.index t (1 : Fin 2) * 256 ≤ (i 1).val ∧ (i 1).val < win0_4.index t (1 : Fin 2) * 256 + 256
    omega

/-- The result array after the run is `G` of the arguments. -/
theorem final (c : Dev nD) : (dats m 0 c).arrAt 4 cfg0.N
    = G (m ((c : Thread nD τ).loc main_arg0)) (m ((c : Thread nD τ).loc main_arg1)) (m ((c : Thread nD τ).loc main_arg2))
        (m ((c : Thread nD τ).loc main_arg3)) :=
  ((dats m 0 c).arrAt_eq_of_cover 4 (G (V m c main_arg0) (V m c main_arg1) (V m c main_arg2) (V m c main_arg3))
    (fun t _ => flushed_eq m c t) covered).trans (by rw [V_main_arg0, V_main_arg1, V_main_arg2, V_main_arg3])

/-- The reference's result is `G` of the same arguments. -/
theorem ref_eq (a0 : Vec Ideal S1920x3072 .bf16) (a1 : Vec Ideal S3072x5120 .fp8e4m3) (a2 : Vec Ideal S24x40 .f32)
    (a3 : Vec Ideal S1920x5120 .bf16) : Cert.OutRefIdeal.Value.G4 (F := Ideal) a0 a1 a2 a3 = G a0 a1 a2 a3 := by
  funext y
  refine congrArg₂ (· + ·) rfl ((matmul_zero (M := 1920) (K := 3072) (N := 5120) none a0 _ y).trans ?_)
  refine Finset.sum_congr rfl fun k _ => congrArg₂ (· * ·) rfl (congrArg₂ (· * ·) rfl ?_)
  exact spread_apply (K := 3072) (N := 5120) (KB := 24) (NB := 40) rfl rfl a2 _ _ _ _ _

end Cert.OutIdeal.Rows

end
-- ==== Proof.GateUpWeight.lean ====
module

public import proofs.«01_k».proof.Proof.Gen.GateUpIdeal.Value
public import proofs.«01_k».proof.Proof.Linear
public import Idealize.ShloMosaic.Lib.Pipeline.CanonAppend
public import Idealize.ShloMosaic.Lib.Pointwise

/-! The gate and up projections: what the kernel's two scratch buffers hold when they are read. -/

@[expose] public section

set_option maxRecDepth 16384

noncomputable section

namespace Cert.GateUpIdeal.Rows

open Cert.GateUpIdeal Cert.GateUpIdeal.Gen Idealize.ShloMosaic Idealize.ShloMosaic.TcCoe Idealize.SL.Sem
open Idealize.ShloMosaic.ValueIdx
open Idealize.ShloMosaic.Pipeline (Dat)
open Cert.Linear

/-- A pair of zero offsets. -/
theorem hz : (![0, 0] : Fin 2 → Nat) = fun _ => 0 := funext fun a => by fin_cases a <;> rfl

/-- The column block of the scales that a grid point's left gate tile reads. -/
theorem col0 (i : grid0.Coords) :
    (Scalar.indexCast (Scalar.addi (Scalar.muli (BitVec.ofNat 32 (i 0).val) 2#32) 0#32)).toNat = 2 * (i 0).val + 0 / 128 :=
  (by decide +kernel : ∀ j : Fin 34,
    (Scalar.indexCast (Scalar.addi (Scalar.muli (BitVec.ofNat 32 j.val) 2#32) 0#32)).toNat = 2 * j.val + 0 / 128) (i 0)

/-- The column block of the scales that a grid point's right gate tile reads. -/
theorem col1 (i : grid0.Coords) :
    (Scalar.indexCast (Scalar.addi (Scalar.muli (BitVec.ofNat 32 (i 0).val) 2#32) 1#32)).toNat = 2 * (i 0).val + 128 / 128 :=
  (by decide +kernel : ∀ j : Fin 34,
    (Scalar.indexCast (Scalar.addi (Scalar.muli (BitVec.ofNat 32 j.val) 2#32) 1#32)).toNat = 2 * j.val + 128 / 128) (i 0)

/-- The column block of the scales that a grid point's left up tile reads. -/
theorem col2 (i : grid0.Coords) :
    (Scalar.indexCast (Scalar.addi (Scalar.addi 68#32 (Scalar.muli (BitVec.ofNat 32 (i 0).val) 2#32)) 0#32)).toNat
      = 68 + 2 * (i 0).val + 0 / 128 :=
  (by decide +kernel : ∀ j : Fin 34,
    (Scalar.indexCast (Scalar.addi (Scalar.addi 68#32 (Scalar.muli (BitVec.ofNat 32 j.val) 2#32)) 0#32)).toNat
      = 68 + 2 * j.val + 0 / 128) (i 0)

/-- The column block of the scales that a grid point's right up tile reads. -/
theorem col3 (i : grid0.Coords) :
    (Scalar.indexCast (Scalar.addi (Scalar.addi 68#32 (Scalar.muli (BitVec.ofNat 32 (i 0).val) 2#32)) 1#32)).toNat
      = 68 + 2 * (i 0).val + 128 / 128 :=
  (by decide +kernel : ∀ j : Fin 34,
    (Scalar.indexCast (Scalar.addi (Scalar.addi 68#32 (Scalar.muli (BitVec.ofNat 32 j.val) 2#32)) 1#32)).toNat
      = 68 + 2 * j.val + 128 / 128) (i 0)

/-- A grid point's two gate column blocks are inside the scales. -/
theorem nbG (i : grid0.Coords) : 2 * (i 0).val + 2 ≤ 136 := (by decide +kernel : ∀ j : Fin 34, 2 * j.val + 2 ≤ 136) (i 0)

/-- A grid point's two up column blocks are inside the scales. -/
theorem nbU (i : grid0.Coords) : 68 + 2 * (i 0).val + 2 ≤ 136 :=
  (by decide +kernel : ∀ j : Fin 34, 68 + 2 * j.val + 2 ≤ 136) (i 0)

/-- The dequantised gate columns of a grid point. -/
abbrev tileG (i : grid0.Coords) (x1 : Vec Ideal S5120x256 .fp8e4m3) (x3 : Vec Ideal S40x136 .f32) : Mat 5120 256 :=
  tile (K := 5120) (KB := 40) (NB := 136) rfl (2 * (i 0).val) (nbG i) x1 x3

/-- The dequantised up columns of a grid point. -/
abbrev tileU (i : grid0.Coords) (x2 : Vec Ideal S5120x256 .fp8e4m3) (x3 : Vec Ideal S40x136 .f32) : Mat 5120 256 :=
  tile (K := 5120) (KB := 40) (NB := 136) rfl (68 + 2 * (i 0).val) (nbU i) x2 x3

/-- The canon of a list of stores at an index that its first stores cover, when those agree with one function. -/
theorem canon_take {S : Shape} {e : EltTy} (n : ℕ) (G : S.Idx → Elt Ideal e) (L : List (View.Piece (Elt Ideal) S e))
    (hL : ∀ p ∈ L.take n, ∀ x : p.1.shape.Idx, p.2 x = G (p.1.emb x)) (y : S.Idx) (hy : ∃ p ∈ L.take n, y ∈ p.1.set) :
    View.canon L y = G y := by
  conv_lhs => rw [← List.take_append_drop n L]
  exact View.canon_append_of_pieces G _ _ hL y hy

set_option maxHeartbeats 4000000 in
/-- The weight scratch, after the gate's 80 tiles are stored, read whole: the dequantised gate columns. -/
theorem weightG (c : Dev nD) (i : grid0.Coords) (arg2 : Memref sig .tc .vmem S5120x256 .fp8e4m3) (harg2 : arg2.IsWhole)
    (arg4 : Memref sig .tc .smem S40x136 .f32) (harg4 : arg4.IsWhole) (arg8 : Memref sig .tc .vmem S5120x256 .bf16)
    (x1 : Vec Ideal S5120x256 .fp8e4m3) (x3 : Vec Ideal S40x136 .f32) :
    kernelRun0_A.sl.v882 (F := Ideal) c i arg2 harg2 arg4 harg4 arg8 x1 x3 = tileG i x1 x3 := by
  unfold kernelRun0_A.sl.v882
  sl_unfold_words
  refine (View.readCov_eq_canon_ld _ _ _ ?hc).trans ?_
  case hc => exact View.cover_of_tiled _ S128x128.size rfl
  rw [View.ld_unit_zero hz]
  unfold_payloads
  simp only [View.readAt_eq_ld, harg2.read_unread, harg4.read_unread, shapeCast_self]
  funext y
  refine View.canon_apply_of_pieces _ _ ?_ y ?hc
  case hc => revert y; exact View.cover_of_tiled _ S128x128.size rfl
  repeat' refine List.forall_mem_cons.2 ⟨?_, ?_⟩
  all_goals first
    | exact fun x => tile_piece (KB := 40) (NB := 136) rfl (2 * (i 0).val) (nbG i) x1 x3 _ _ _ _ rfl
        (by first | exact col0 i | exact col1 i) rfl x _
    | exact List.forall_mem_nil _

set_option maxHeartbeats 8000000 in
/-- The weight scratch, after the up part's 80 tiles are stored over the gate's, read whole: the dequantised up columns. -/
theorem weightU (c : Dev nD) (i : grid0.Coords) (arg2 : Memref sig .tc .vmem S5120x256 .fp8e4m3) (harg2 : arg2.IsWhole)
    (arg3 : Memref sig .tc .vmem S5120x256 .fp8e4m3) (harg3 : arg3.IsWhole)
    (arg4 : Memref sig .tc .smem S40x136 .f32) (harg4 : arg4.IsWhole) (arg8 : Memref sig .tc .vmem S5120x256 .bf16)
    (x1 x2 : Vec Ideal S5120x256 .fp8e4m3) (x3 : Vec Ideal S40x136 .f32) :
    kernelRun0_A.sl.v1801 (F := Ideal) c i arg2 harg2 arg3 harg3 arg4 harg4 arg8 x1 x2 x3 = tileU i x2 x3 := by
  unfold kernelRun0_A.sl.v1801
  have hc : ∀ y, ∃ p ∈ (kernelRun0_A.sl.HS0_160 (F := Ideal) c i arg2 harg2 arg3 harg3 arg4 harg4 x1 x2 x3).take 80, y ∈ p.1.set :=
    View.cover_of_tiled _ S128x128.size rfl
  refine (View.readCov_eq_canon_ld _ _ _ fun y => ?_).trans ?_
  · obtain ⟨p, hp, h⟩ := hc y
    exact ⟨p, List.mem_of_mem_take hp, h⟩
  rw [View.ld_unit_zero hz]
  funext y
  refine canon_take 80 _ _ ?_ y (hc y)
  clear hc
  sl_unfold_words
  simp only [List.take_succ_cons, List.take_zero]
  unfold_payloads
  simp only [View.readAt_eq_ld, harg3.read_unread, harg4.read_unread, shapeCast_self]
  repeat' refine List.forall_mem_cons.2 ⟨?_, ?_⟩
  all_goals first
    | exact fun x => tile_piece (KB := 40) (NB := 136) rfl (68 + 2 * (i 0).val) (nbU i) x2 x3 _ _ _ _ rfl
        (by first | exact col2 i | exact col3 i) rfl x _
    | exact List.forall_mem_nil _

/-- The gate scratch read anywhere: rows times dequantised gate columns. -/
theorem gRead (c : Dev nD) (i : grid0.Coords) (arg1 : Memref sig .tc .vmem S1920x5120 .bf16) (harg1 : arg1.IsWhole)
    (arg2 : Memref sig .tc .vmem S5120x256 .fp8e4m3) (harg2 : arg2.IsWhole)
    (arg4 : Memref sig .tc .smem S40x136 .f32) (harg4 : arg4.IsWhole) (arg8 : Memref sig .tc .vmem S5120x256 .bf16)
    (arg9 : Memref sig .tc .vmem S1920x256 .f32) (x0 : Vec Ideal S1920x5120 .bf16)
    (x1 : Vec Ideal S5120x256 .fp8e4m3) (x3 : Vec Ideal S40x136 .f32) (r : Rect S1920x256) :
    arg9.view.readCov (kernelRun0_A.sl.HS1_6 (F := Ideal) c i arg1 harg1 arg2 harg2 arg4 harg4 arg8 x0 x1 x3) r.toLoadRect
      = View.ld (dot (M := 1920) (K := 5120) (N := 256) x0 (tileG i x1 x3) : Vec Ideal S1920x256 .f32) r := by
  have hc : ∀ y, ∃ p ∈ kernelRun0_A.sl.HS1_6 (F := Ideal) c i arg1 harg1 arg2 harg2 arg4 harg4 arg8 x0 x1 x3, y ∈ p.1.set :=
    View.cover_of_tiled _ S320x256.size rfl
  refine (View.readCov_eq_canon_ld _ _ _ hc).trans (congrArg (View.ld · r) ?_)
  funext y
  refine View.canon_apply_of_pieces _ _ ?_ y (hc y)
  unfold kernelRun0_A.sl.HS1_6
  simp only [weightG, View.readAt_eq_ld, harg1.read_unread]
  unfold_payloads
  simp only [shapeCast_self]
  repeat' refine List.forall_mem_cons.2 ⟨?_, ?_⟩
  all_goals first
    | exact List.forall_mem_nil _
    | (refine fun x => dot_rows (M := 1920) (K := 5120) (N := 256) (R := 320) none x0 _ _ _ ?_ x
       decide)

end Cert.GateUpIdeal.Rows

end
-- ==== Proof.Quant.lean ====
module

public import Idealize.ShloMosaic.Lib.Pipeline.Value
public import Idealize.ShloMosaic.Lib.ValueIdxCore
public import Idealize.ShloMosaic.PureOps.Ideal.Laws

/-! The group quantiser over the extended reals. A group's scale is the power of two above its largest magnitude over 448;
the kernel finds the power's exponent bit by bit, the reference as the least power in a list. Both give one number. -/

@[expose] public section

set_option maxRecDepth 16384

noncomputable section

namespace Cert.Quant

open Idealize.ShloMosaic Idealize.ShloMosaic.ValueIdx
open scoped BigOperators

/-- The extended real an f32 word stands for. -/
abbrev pat (b : BitVec 32) : EReal := Ideal.ofBits .f32 b

/-- The number whose f32 word has the exponent field `n` and an empty fraction. -/
def pw (n : ℕ) : EReal := pat (BitVec.ofNat 32 n <<< 23)

/-- The three fields of such a word. -/
theorem pw_fields : ∀ n : Fin 256, ((BitVec.ofNat 32 n.val <<< 23).extractLsb' 31 1 == 1#1) = false
    ∧ ((BitVec.ofNat 32 n.val <<< 23).extractLsb' 23 8).toNat = n.val
    ∧ ((BitVec.ofNat 32 n.val <<< 23).extractLsb' 0 23).toNat = 0 := by decide +kernel

/-- It is a power of two when the field is in the normal range. -/
theorem pw_eq (n : ℕ) (h1 : 1 ≤ n) (h2 : n ≤ 254) : pw n = (((2 : ℝ) ^ ((n : ℤ) - 127) : ℝ) : EReal) := by
  obtain ⟨e0, e1, e2⟩ := pw_fields ⟨n, by omega⟩
  simp only at e0 e1 e2
  unfold pw
  generalize BitVec.ofNat 32 n <<< 23 = b at e0 e1 e2 ⊢
  show Ideal.ieee 8 23 b = _
  unfold Ideal.ieee
  simp only [Nat.reduceAdd, e0, e1, e2]
  rw [if_neg (by omega), if_neg (by omega)]
  congr 1
  have h23 : ((2 : ℝ) ^ ((n : ℤ) - 127)) = (2 : ℝ) ^ (23 : ℕ) * (2 : ℝ) ^ ((n : ℤ) - 127 - 23) := by
    rw [← zpow_natCast, ← zpow_add₀ (by norm_num)]
    congr 1
    omega
  rw [h23]
  norm_num

/-- The all-ones field with an empty fraction is infinity. -/
theorem pw_top : pw 255 = ⊤ := by
  obtain ⟨e0, e1, e2⟩ := pw_fields ⟨255, by omega⟩
  simp only at e0 e1 e2
  unfold pw
  generalize BitVec.ofNat 32 255 <<< 23 = b at e0 e1 e2 ⊢
  show Ideal.ieee 8 23 b = _
  unfold Ideal.ieee
  simp only [Nat.reduceAdd, e0, e1, e2]
  norm_num

/-- A greater field is a greater number. -/
theorem pw_mono (a b : ℕ) (h0 : 1 ≤ a) (h1 : a ≤ b) (h2 : b ≤ 255) : pw a ≤ pw b := by
  rcases Nat.lt_or_ge b 255 with hb | hb
  · rw [pw_eq a h0 (by omega), pw_eq b (by omega) (by omega)]
    exact EReal.coe_le_coe_iff.2 (zpow_le_zpow_right₀ (by norm_num) (by omega))
  · rw [show b = 255 by omega, pw_top]; exact le_top

theorem pw_one : pw 127 = 1 := by
  rw [pw_eq 127 (by omega) (by omega)]; norm_num

/-- One rung of the kernel's search: try the field with bit `s` added. -/
def rung (t : EReal) (f s : BitVec 32) : BitVec 32 :=
  Scalar.select (Ideal.cmp .oge t (pat (IntOp.shli .vector (IntOp.addi f s) 23#32))) (IntOp.addi f s) f

/-- The exponent field the kernel finds. -/
def field (t : EReal) : BitVec 32 :=
  IntOp.minsi (rung t (rung t (rung t (rung t (rung t (rung t (rung t (rung t 0#32 128#32) 64#32) 32#32) 16#32) 8#32) 4#32) 2#32) 1#32) 252#32

/-- The scale's exponent. -/
def expo (t : EReal) : BitVec 32 :=
  Scalar.select (IntOp.cmpi .eq (field t) 0#32) 0#32 (IntOp.subi (field t) 126#32)

/-- The kernel's scale. -/
def scaleOf (t : EReal) : EReal := pat (IntOp.shli .vector (IntOp.addi (expo t) 127#32) 23#32)

/-- The kernel's inverse scale. -/
def invOf (t : EReal) : EReal := pat (IntOp.shli .vector (IntOp.subi 127#32 (expo t)) 23#32)

/-- One rung halves the interval the threshold is in. -/
theorem rung_spec (t : EReal) (f p : ℕ) (hf : f + 2 * p ≤ 256) (h1 : f = 0 ∨ pw f ≤ t)
    (h2 : f + 2 * p = 256 ∨ t < pw (f + 2 * p)) :
    ∃ f', rung t (BitVec.ofNat 32 f) (BitVec.ofNat 32 p) = BitVec.ofNat 32 f' ∧ f' + p ≤ 256 ∧ (f' = 0 ∨ pw f' ≤ t)
      ∧ (f' + p = 256 ∨ t < pw (f' + p)) := by
  have e : rung t (BitVec.ofNat 32 f) (BitVec.ofNat 32 p)
      = if pw (f + p) ≤ t then BitVec.ofNat 32 (f + p) else BitVec.ofNat 32 f := by
    have ha : IntOp.addi (BitVec.ofNat 32 f) (BitVec.ofNat 32 p) = BitVec.ofNat 32 (f + p) := by
      rw [BitVec.ofNat_add]; rfl
    unfold rung
    rw [ha]
    show Scalar.select (BitVec.ofBool (decide (pw (f + p) ≤ t))) _ _ = _
    unfold Scalar.select
    by_cases h : pw (f + p) ≤ t <;> simp [h]
  by_cases h : pw (f + p) ≤ t
  · refine ⟨f + p, by rw [e, if_pos h], by omega, Or.inr h, ?_⟩
    rw [Nat.add_assoc, ← Nat.two_mul]
    exact h2
  · exact ⟨f, by rw [e, if_neg h], by omega, h1, Or.inr (not_le.1 h)⟩

/-- The words the kernel makes of the field it found. -/
theorem words : ∀ n : Fin 256, IntOp.minsi (BitVec.ofNat 32 n.val) 252#32 = BitVec.ofNat 32 (min n.val 252) := by decide +kernel

/-- The words the kernel's two scales have. -/
theorem words' : ∀ g : Fin 253,
    (IntOp.shli .vector (IntOp.addi (Scalar.select (IntOp.cmpi .eq (BitVec.ofNat 32 g.val) 0#32) 0#32
        (IntOp.subi (BitVec.ofNat 32 g.val) 126#32)) 127#32) 23#32
      = BitVec.ofNat 32 (if g.val = 0 then 127 else g.val + 1) <<< 23)
    ∧ (IntOp.shli .vector (IntOp.subi 127#32 (Scalar.select (IntOp.cmpi .eq (BitVec.ofNat 32 g.val) 0#32) 0#32
        (IntOp.subi (BitVec.ofNat 32 g.val) 126#32))) 23#32
      = BitVec.ofNat 32 (if g.val = 0 then 127 else 253 - g.val) <<< 23) := by decide +kernel

/-- The kernel's scale and inverse are those of a field `g` that brackets the threshold. -/
theorem scale_spec (t : EReal) : ∃ g : ℕ, g ≤ 252 ∧ scaleOf t = pw (if g = 0 then 127 else g + 1)
    ∧ invOf t = pw (if g = 0 then 127 else 253 - g) ∧ (g = 0 ∨ pw g ≤ t)
    ∧ (t < pw (g + 1) ∨ (g = 252 ∧ pw 253 ≤ t)) := by
  obtain ⟨f0, e0, a0, b0, c0⟩ := rung_spec t 0 128 (by omega) (Or.inl rfl) (Or.inl (by omega))
  obtain ⟨f1, e1, a1, b1, c1⟩ := rung_spec t f0 64 (by omega) b0 c0
  obtain ⟨f2, e2, a2, b2, c2⟩ := rung_spec t f1 32 (by omega) b1 c1
  obtain ⟨f3, e3, a3, b3, c3⟩ := rung_spec t f2 16 (by omega) b2 c2
  obtain ⟨f4, e4, a4, b4, c4⟩ := rung_spec t f3 8 (by omega) b3 c3
  obtain ⟨f5, e5, a5, b5, c5⟩ := rung_spec t f4 4 (by omega) b4 c4
  obtain ⟨f6, e6, a6, b6, c6⟩ := rung_spec t f5 2 (by omega) b5 c5
  obtain ⟨f7, e7, a7, b7, c7⟩ := rung_spec t f6 1 (by omega) b6 c6
  have hfield : field t = BitVec.ofNat 32 (min f7 252) := by
    unfold field
    rw [e0, e1, e2, e3, e4, e5, e6, e7]
    exact words ⟨f7, by omega⟩
  obtain ⟨w1, w2⟩ := words' ⟨min f7 252, by omega⟩
  refine ⟨min f7 252, by omega, ?_, ?_, ?_, ?_⟩
  · unfold scaleOf expo; rw [hfield]; exact congrArg pat w1
  · unfold invOf expo; rw [hfield]; exact congrArg pat w2
  · rcases b7 with h | h
    · left; omega
    · by_cases h0 : f7 = 0
      · left; omega
      · right; exact (pw_mono _ _ (by omega) (by omega) (by omega)).trans h
  · by_cases h : f7 ≤ 252
    · rw [Nat.min_eq_left h]
      rcases c7 with h' | h'
      · omega
      · exact Or.inl h'
    · right
      refine ⟨by omega, ?_⟩
      rcases b7 with h' | h'
      · omega
      · exact (pw_mono _ _ (by omega) (by omega) (by omega)).trans h'

/-- The reference's `k`-th power of two. -/
def refPow (k : Fin 252) : EReal := Ideal.exp2 (((IntOp.subi (BitVec.ofNat 32 k.val) 125#32).toInt : ℝ) : EReal)

theorem refPow_int : ∀ k : Fin 252, (IntOp.subi (BitVec.ofNat 32 k.val) 125#32).toInt = (k.val : ℤ) - 125 := by decide +kernel

theorem refPow_eq (k : Fin 252) : refPow k = pw (k.val + 2) := by
  unfold refPow
  rw [refPow_int, pw_eq _ (by omega) (by omega), Ideal.exp2_coe]
  congr 1
  show (2 : ℝ) ^ (((k.val : ℤ) - 125 : ℤ) : ℝ) = _
  rw [Real.rpow_intCast]
  congr 1
  push_cast
  omega

/-- The reference's scale: one below the least power, else the least power of two above the threshold. -/
def refScale (t : EReal) : EReal :=
  Scalar.select (Ideal.cmp .olt t (pat 0x00800000#32)) (pat 0x3F800000#32)
    ((Finset.univ : Finset (Fin 252)).fold min (pat 0x7F800000#32)
      (fun k => Scalar.select (Ideal.cmp .ogt (refPow k) t) (refPow k) (pat 0x7E800000#32)))

/-- The reference's scale is the kernel's. -/
theorem refScale_eq (t : EReal) : refScale t = scaleOf t := by
  obtain ⟨g, hg, hs, -, hlo, hhi⟩ := scale_spec t
  have hcell : ∀ k : Fin 252, Scalar.select (Ideal.cmp .ogt (refPow k) t) (refPow k) (pat 0x7E800000#32)
      = if t < pw (k.val + 2) then pw (k.val + 2) else pw 253 := by
    intro k
    rw [refPow_eq]
    show Scalar.select (BitVec.ofBool (decide (t < pw (k.val + 2)))) _ _ = _
    unfold Scalar.select
    by_cases h : t < pw (k.val + 2)
    · simp [h]
    · simp only [h]; rfl
  have htest : refScale t = if t < pw 1 then pw 127 else (Finset.univ : Finset (Fin 252)).fold min (pat 0x7F800000#32)
      (fun k => if t < pw (k.val + 2) then pw (k.val + 2) else pw 253) := by
    unfold refScale
    simp only [hcell]
    show Scalar.select (BitVec.ofBool (decide (t < pw 1))) (pw 127) _ = _
    unfold Scalar.select
    by_cases h : t < pw 1 <;> simp [h]
  rw [htest, hs]
  by_cases h0 : g = 0
  · subst h0
    rcases hhi with h | h
    · rw [if_pos h, if_pos rfl]
    · omega
  · have hge : pw g ≤ t := hlo.resolve_left h0
    rw [if_neg (not_lt.2 ((pw_mono 1 g (by omega) (by omega) (by omega)).trans hge)), if_neg h0]
    apply le_antisymm
    · rw [Finset.fold_min_le]
      right
      refine ⟨⟨g - 1, by omega⟩, Finset.mem_univ _, ?_⟩
      show (if t < pw (g - 1 + 2) then pw (g - 1 + 2) else pw 253) ≤ _
      rw [show g - 1 + 2 = g + 1 by omega]
      rcases hhi with h | h
      · rw [if_pos h]
      · obtain ⟨h252, h253⟩ := h
        subst h252
        split <;> exact le_refl _
    · rw [Finset.le_fold_min]
      refine ⟨?_, fun k _ => ?_⟩
      · rw [show pat 0x7F800000#32 = pw 255 from rfl, pw_top]; exact le_top
      · split
        · rename_i hk
          have : g + 1 ≤ k.val + 2 := by
            by_contra hc
            exact absurd (hge.trans_lt hk) (not_lt.2 (pw_mono _ _ (by omega) (by omega) (by omega)))
          exact pw_mono _ _ (by omega) this (by omega)
        · exact pw_mono _ _ (by omega) (by omega) (by omega)

/-- One over the reference's scale is the kernel's inverse scale. -/
theorem refInv_eq (t : EReal) : Ideal.div (pat 0x3F800000#32) (refScale t) = invOf t := by
  rw [refScale_eq]
  obtain ⟨g, hg, hs, hi, -, -⟩ := scale_spec t
  rw [hs, hi, show pat 0x3F800000#32 = pw 127 from rfl, pw_one]
  by_cases h0 : g = 0
  · rw [if_pos h0, if_pos h0, pw_one]
    unfold Ideal.div
    rw [if_neg one_ne_zero, one_mul]
    rw [← EReal.coe_one, ← EReal.coe_inv, inv_one]
  · rw [if_neg h0, if_neg h0, pw_eq _ (by omega) (by omega), pw_eq _ (by omega) (by omega)]
    have hpos : (0 : ℝ) < (2 : ℝ) ^ (((g + 1 : ℕ) : ℤ) - 127) := zpow_pos (by norm_num) _
    unfold Ideal.div
    rw [if_neg (by exact_mod_cast hpos.ne'), one_mul, ← EReal.coe_inv, ← zpow_neg]
    congr 2
    omega

/-- The largest magnitude of a group, as a fold from minus infinity. -/
def groupMax (r : Fin 128 → EReal) : EReal := (Finset.univ : Finset (Fin 128)).fold max (pat 0xFF800000#32) fun k => max (r k) (-(r k))

/-- The threshold of a group: its largest magnitude over 448. -/
def thrOf (r : Fin 128 → EReal) : EReal := groupMax r * pat 0x3B124925#32

/-- A value clipped to the 8-bit format's range. -/
def clip (x : EReal) : EReal := min (pat 0x43E00000#32) (max (pat 0xC3E00000#32) x)

/-- A value's code in the group `r`. -/
def code (r : Fin 128 → EReal) (x : EReal) : EReal := clip (x * invOf (thrOf r))

end Cert.Quant

end
-- ==== Proof.QuantBlock.lean ====
module

public import proofs.«01_k».proof.Proof.Quant
public import proofs.«01_k».proof.Proof.Linear
public import Idealize.ShloMosaic.PureOps.Reduce
public import Idealize.ShloMosaic.Lib.Pointwise

/-! A block of rows quantised in one group of 128 columns, as the kernel's vector operations write it, read at an entry. -/

@[expose] public section

noncomputable section

namespace Cert.Quant

open Idealize.ShloMosaic Cert.Linear
open Idealize.ShloMosaic.ValueIdx (idx2_lt0 idx2_lt1)

variable {R : ℕ}

/-- The thresholds of the rows, as vector operations. -/
def thrV (v : FVec Ideal ⟨2, ![R, 128]⟩ .f32) (hr : (⟨2, ![R, 128]⟩ : Shape).Reduces [1] ⟨1, ![R]⟩)
    (hs : (⟨1, ![R]⟩ : Shape).ShapeCasts ⟨2, ![R, 1]⟩) : FVec Ideal ⟨2, ![R, 1]⟩ .f32 :=
  mulf (shapeCast ⟨2, ![R, 1]⟩ (multiReduction .maximumf [1] ⟨1, ![R]⟩ (absf v) 0xFF800000#32 hr (.inl rfl) rfl) hs)
    (broadcast ⟨2, ![R, 1]⟩ (Scalar.ofBits .f32 0x3B124925#32))

/-- One rung of the search, as vector operations. -/
def rungV (t : FVec Ideal ⟨2, ![R, 1]⟩ .f32) (f : IVec ⟨2, ![R, 1]⟩ 32) (s : BitVec 32) : IVec ⟨2, ![R, 1]⟩ 32 :=
  select (cmpf .oge t (bitcastToFloat .f32 (shli (addi f (broadcast ⟨2, ![R, 1]⟩ s)) (broadcast ⟨2, ![R, 1]⟩ 23#32))))
    (addi f (broadcast ⟨2, ![R, 1]⟩ s)) f

/-- The exponent fields, as vector operations. -/
def fieldV (t : FVec Ideal ⟨2, ![R, 1]⟩ .f32) : IVec ⟨2, ![R, 1]⟩ 32 :=
  minsi (rungV t (rungV t (rungV t (rungV t (rungV t (rungV t (rungV t (rungV t (broadcast ⟨2, ![R, 1]⟩ 0#32)
    128#32) 64#32) 32#32) 16#32) 8#32) 4#32) 2#32) 1#32) (broadcast ⟨2, ![R, 1]⟩ 252#32)

/-- The scales' exponents, as vector operations. -/
def expoV (t : FVec Ideal ⟨2, ![R, 1]⟩ .f32) : IVec ⟨2, ![R, 1]⟩ 32 :=
  select (cmpi .eq (fieldV t) (broadcast ⟨2, ![R, 1]⟩ 0#32)) (broadcast ⟨2, ![R, 1]⟩ 0#32)
    (subi (fieldV t) (broadcast ⟨2, ![R, 1]⟩ 126#32))

/-- The scales, as vector operations. -/
def scaleV (t : FVec Ideal ⟨2, ![R, 1]⟩ .f32) : FVec Ideal ⟨2, ![R, 1]⟩ .f32 :=
  bitcastToFloat .f32 (shli (addi (expoV t) (broadcast ⟨2, ![R, 1]⟩ 127#32)) (broadcast ⟨2, ![R, 1]⟩ 23#32))

/-- The inverse scales, as vector operations. -/
def invV (t : FVec Ideal ⟨2, ![R, 1]⟩ .f32) : FVec Ideal ⟨2, ![R, 1]⟩ .f32 :=
  bitcastToFloat .f32 (shli (subi (broadcast ⟨2, ![R, 1]⟩ 127#32) (expoV t)) (broadcast ⟨2, ![R, 1]⟩ 23#32))

/-- The codes, as vector operations. -/
def codeV (v : FVec Ideal ⟨2, ![R, 128]⟩ .f32) (t : FVec Ideal ⟨2, ![R, 1]⟩ .f32)
    (hb : (⟨2, ![R, 1]⟩ : Shape).Broadcasts ⟨2, ![R, 128]⟩) (hl : FTy.bits .fp8e4m3 < FTy.bits .f32) : FVec Ideal ⟨2, ![R, 128]⟩ .fp8e4m3 :=
  truncf .fp8e4m3 (minimumf (broadcast ⟨2, ![R, 128]⟩ (Scalar.ofBits .f32 0x43E00000#32))
    (maximumf (broadcast ⟨2, ![R, 128]⟩ (Scalar.ofBits .f32 0xC3E00000#32)) (mulf v (broadcastTo ⟨2, ![R, 128]⟩ (invV t) hb)))) hl

/-- The dequantised codes, as vector operations. -/
def deqV (v : FVec Ideal ⟨2, ![R, 128]⟩ .f32) (t : FVec Ideal ⟨2, ![R, 1]⟩ .f32)
    (hb : (⟨2, ![R, 1]⟩ : Shape).Broadcasts ⟨2, ![R, 128]⟩) (hl : FTy.bits .fp8e4m3 < FTy.bits .f32)
    (hl' : FTy.bits .fp8e4m3 < FTy.bits .bf16) (hl'' : FTy.bits .bf16 < FTy.bits .f32) : FVec Ideal ⟨2, ![R, 128]⟩ .bf16 :=
  mulf (extf .bf16 (codeV v t hb hl) hl') (broadcastTo ⟨2, ![R, 128]⟩ (truncf .bf16 (scaleV t) hl'') hb)

/-- The row of the block that an entry's group is. -/
def rowOf (v : FVec Ideal ⟨2, ![R, 128]⟩ .f32) (r : Fin R) : Fin 128 → EReal := fun k => v (ValueIdx.ix2 r k)

/-- The thresholds at an entry. -/
theorem thrV_apply (v : FVec Ideal ⟨2, ![R, 128]⟩ .f32) (hr : (⟨2, ![R, 128]⟩ : Shape).Reduces [1] ⟨1, ![R]⟩)
    (hs : (⟨1, ![R]⟩ : Shape).ShapeCasts ⟨2, ![R, 1]⟩) (r : Fin R) : thrV v hr hs (ValueIdx.ix2 r 0) = thrOf (rowOf v r) := by
  refine congrArg (· * pat 0x3B124925#32) ?_
  refine (shapeCast_apply _ hs (ValueIdx.ix2 r 0) (ValueIdx.ix1 r) ?_).trans ?_
  · rw [Shape.rowMajor_val_two]
    simp [Shape.rowMajor_val_one]
    rfl
  · refine (Ideal.multiReduction_maximumf_single _ _ hr _ _ _).trans ?_
    refine Finset.fold_congr fun k _ => ?_
    have e : hr.lift (ValueIdx.ix1 r) k = ValueIdx.ix2 r k := funext fun a => Fin.ext (by
      rw [Shape.Reduces.lift_val]
      match a with
      | ⟨0, _⟩ => rfl
      | ⟨1, _⟩ => rfl)
    show max (v (hr.lift (ValueIdx.ix1 r) k)) (-(v (hr.lift (ValueIdx.ix1 r) k))) = _
    rw [e]; rfl

/-- A column spread over its rows, at an entry. -/
theorem spread_col (x : FVec Ideal ⟨2, ![R, 1]⟩ .f32) (hb : (⟨2, ![R, 1]⟩ : Shape).Broadcasts ⟨2, ![R, 128]⟩)
    (z : (⟨2, ![R, 128]⟩ : Shape).Idx) : broadcastTo ⟨2, ![R, 128]⟩ x hb z = x (ValueIdx.ix2 (z 0) 0) := by
  refine broadcastTo_apply x hb z _ fun a => ?_
  match a with
  | ⟨0, _⟩ =>
    show (z 0).val = if R = 1 then 0 else (z 0).val
    have := idx2_lt0 z
    split <;> omega
  | ⟨1, _⟩ => rfl

/-- One rung at an entry. -/
theorem rungV_apply (t : FVec Ideal ⟨2, ![R, 1]⟩ .f32) (f : IVec ⟨2, ![R, 1]⟩ 32) (s : BitVec 32)
    (z : (⟨2, ![R, 1]⟩ : Shape).Idx) : rungV t f s z = rung (t z) (f z) s := rfl

/-- The exponent fields at an entry. -/
theorem fieldV_apply (t : FVec Ideal ⟨2, ![R, 1]⟩ .f32) (z : (⟨2, ![R, 1]⟩ : Shape).Idx) : fieldV t z = field (t z) := by
  refine congrArg (IntOp.minsi · 252#32) ?_
  simp only [rungV_apply]
  rfl

/-- The scales' exponents at an entry. -/
theorem expoV_apply (t : FVec Ideal ⟨2, ![R, 1]⟩ .f32) (z : (⟨2, ![R, 1]⟩ : Shape).Idx) : expoV t z = expo (t z) :=
  congrArg (fun w => Scalar.select (IntOp.cmpi .eq w 0#32) 0#32 (IntOp.subi w 126#32)) (fieldV_apply t z)

/-- The scales at an entry. -/
theorem scaleV_apply (t : FVec Ideal ⟨2, ![R, 1]⟩ .f32) (z : (⟨2, ![R, 1]⟩ : Shape).Idx) : scaleV t z = scaleOf (t z) :=
  congrArg (fun w => pat (IntOp.shli .vector (IntOp.addi w 127#32) 23#32)) (expoV_apply t z)

/-- The inverse scales at an entry. -/
theorem invV_apply (t : FVec Ideal ⟨2, ![R, 1]⟩ .f32) (z : (⟨2, ![R, 1]⟩ : Shape).Idx) : invV t z = invOf (t z) :=
  congrArg (fun w => pat (IntOp.shli .vector (IntOp.subi 127#32 w) 23#32)) (expoV_apply t z)

/-- The codes at an entry. -/
theorem codeV_apply (v : FVec Ideal ⟨2, ![R, 128]⟩ .f32) (hr : (⟨2, ![R, 128]⟩ : Shape).Reduces [1] ⟨1, ![R]⟩)
    (hs : (⟨1, ![R]⟩ : Shape).ShapeCasts ⟨2, ![R, 1]⟩) (hb : (⟨2, ![R, 1]⟩ : Shape).Broadcasts ⟨2, ![R, 128]⟩)
    (hl : FTy.bits .fp8e4m3 < FTy.bits .f32) (z : (⟨2, ![R, 128]⟩ : Shape).Idx) :
    codeV v (thrV v hr hs) hb hl z = code (rowOf v (z 0)) (v z) := by
  refine congrArg (fun q => clip (v z * q)) ?_
  exact (spread_col _ hb z).trans ((invV_apply _ _).trans (congrArg invOf (thrV_apply v hr hs (z 0))))

/-- The dequantised codes at an entry. -/
theorem deqV_apply (v : FVec Ideal ⟨2, ![R, 128]⟩ .f32) (hr : (⟨2, ![R, 128]⟩ : Shape).Reduces [1] ⟨1, ![R]⟩)
    (hs : (⟨1, ![R]⟩ : Shape).ShapeCasts ⟨2, ![R, 1]⟩) (hb : (⟨2, ![R, 1]⟩ : Shape).Broadcasts ⟨2, ![R, 128]⟩)
    (hl : FTy.bits .fp8e4m3 < FTy.bits .f32) (hl' : FTy.bits .fp8e4m3 < FTy.bits .bf16) (hl'' : FTy.bits .bf16 < FTy.bits .f32)
    (z : (⟨2, ![R, 128]⟩ : Shape).Idx) :
    deqV v (thrV v hr hs) hb hl hl' hl'' z = code (rowOf v (z 0)) (v z) * scaleOf (thrOf (rowOf v (z 0))) := by
  refine congrArg₂ (· * ·) (codeV_apply v hr hs hb hl z) ?_
  refine (spread_col _ hb z).trans ?_
  show scaleV (thrV v hr hs) _ = _
  exact (scaleV_apply _ _).trans (congrArg scaleOf (thrV_apply v hr hs (z 0)))

end Cert.Quant

end
-- ==== Proof.Gated.lean ====
module

public import proofs.«01_k».proof.Proof.Quant
public import proofs.«01_k».proof.Proof.Linear

/-! The gate and up projections as one function of the whole arrays: the gated product of the two halves of the linear
layer, quantised in groups of 128 columns. -/

@[expose] public section

noncomputable section

namespace Cert.Quant

open Idealize.ShloMosaic Cert.Linear
open Idealize.ShloMosaic.ValueIdx (idx2_lt0 idx2_lt1)

/-- The gated product: `g` times its sigmoid times `u`. -/
def act (g u : EReal) : EReal :=
  g * Ideal.div (pat 0x3F800000#32) (pat 0x3F800000#32 + Ideal.exp (pat 0x00000000#32 - g)) * u

/-- The same by the logistic function. -/
theorem act_eq (g u : EReal) : act g u = g * Ideal.logistic g * u := by
  unfold act Ideal.logistic
  rw [show pat 0x3F800000#32 = 1 from pw_one, show pat 0x00000000#32 = 0 from Ideal.ofBits_zero_f32, sub_eq_add_neg, zero_add]

/-- The 128 columns of a row that an entry's group is. -/
def group {M N NB : ℕ} (hN : N = NB * 128) (B : Mat M N) (y : (⟨2, ![M, N]⟩ : Shape).Idx) : Fin 128 → EReal := fun k =>
  B (ValueIdx.ix2 (y 0) ⟨(y 1).val / 128 * 128 + k.val, by have := idx2_lt1 y; have := k.isLt; omega⟩)

/-- The gated product of a matrix: the gate is the first half of the columns, the other factor the second half. -/
def halves {M N W : ℕ} (hW : W = N + N) (B : Mat M W) : Mat M N := fun y =>
  act (B (ValueIdx.ix2 (y 0) ⟨(y 1).val, by have := idx2_lt1 y; omega⟩))
    (B (ValueIdx.ix2 (y 0) ⟨N + (y 1).val, by have := idx2_lt1 y; omega⟩))

/-- The gated product of the whole layer. -/
def midW (a0 : Mat 1920 5120) (a1 : Mat 5120 17408) (a2 : Mat 40 136) : Mat 1920 8704 :=
  halves rfl (dot a0 (deq (KB := 40) (NB := 136) rfl rfl a1 a2))

/-- Its codes. -/
def codesW (a0 : Mat 1920 5120) (a1 : Mat 5120 17408) (a2 : Mat 40 136) : Mat 1920 8704 := fun y =>
  code (group (NB := 68) rfl (midW a0 a1 a2) y) (midW a0 a1 a2 y)

/-- The scale of an entry's group. -/
def sclW (a0 : Mat 1920 5120) (a1 : Mat 5120 17408) (a2 : Mat 40 136) : Mat 1920 8704 := fun y =>
  scaleOf (thrOf (group (NB := 68) rfl (midW a0 a1 a2) y))

/-- The array of scales: the two groups of 256 columns' scales in the first two lanes, zero in the others. -/
def scalesW (a0 : Mat 1920 5120) (a1 : Mat 5120 17408) (a2 : Mat 40 136) : (⟨3, ![34, 1920, 128]⟩ : Shape).Idx → EReal := fun y =>
  if h : (y 2).val < 2 then
    sclW a0 a1 a2 (ValueIdx.ix2 (y 1) ⟨(y 0).val * 256 + (y 2).val * 128, by have : (y 0).val < 34 := (y 0).isLt; omega⟩)
  else 0

end Cert.Quant

end
-- ==== Proof.GateUpBlock.lean ====
module

public import proofs.«01_k».proof.Proof.GateUpWeight
public import proofs.«01_k».proof.Proof.QuantBlock
public import proofs.«01_k».proof.Proof.Gated

/-! The gate and up projections: what the kernel's body leaves in its three output blocks. -/

@[expose] public section

set_option maxRecDepth 16384

noncomputable section

namespace Cert.GateUpIdeal.Rows

open Cert.GateUpIdeal Cert.GateUpIdeal.Gen Idealize.ShloMosaic Idealize.ShloMosaic.TcCoe Idealize.SL.Sem
open Idealize.ShloMosaic.ValueIdx
open Cert.Linear Cert.Quant

/-- The gated product of a block of rows, as vector operations. -/
def actV (g u : FVec Ideal S320x256 .f32) : FVec Ideal S320x256 .f32 :=
  mulf (mulf g (divf (broadcast S320x256 (Scalar.ofBits .f32 0x3F800000#32)) (addf (broadcast S320x256 (Scalar.ofBits .f32 0x3F800000#32))
    (exp (subf (broadcast S320x256 (Scalar.ofBits .f32 0x00000000#32)) g))))) u

/-- The gated product of a grid point's columns. -/
def mid (i : grid0.Coords) (x0 : Vec Ideal S1920x5120 .bf16) (x1 x2 : Vec Ideal S5120x256 .fp8e4m3)
    (x3 : Vec Ideal S40x136 .f32) : Mat 1920 256 := fun y =>
  act (dot (M := 1920) (K := 5120) (N := 256) x0 (tileG i x1 x3) y) (dot (M := 1920) (K := 5120) (N := 256) x0 (tileU i x2 x3) y)

/-- Rows `a` to `a + 319`, columns `h` to `h + 127` of it, as the kernel computes them. -/
def midV (i : grid0.Coords) (x0 : Vec Ideal S1920x5120 .bf16) (x1 x2 : Vec Ideal S5120x256 .fp8e4m3)
    (x3 : Vec Ideal S40x136 .f32) (a h : ℕ) (hx : ∀ b, (![a, 0] : Fin 2 → ℕ) b + S320x5120.size b ≤ S1920x5120.size b)
    (hg : ∀ b, (![a, 0] : Fin 2 → ℕ) b + S320x256.size b ≤ S1920x256.size b) (hs : S320x256.Slices ![0, h] S320x128) :
    FVec Ideal S320x128 .f32 :=
  extractStridedSlice S320x128 ![0, h]
    (actV (View.ld (Val := Elt Ideal) (S := S1920x256) (e' := .f32) (dot (M := 1920) (K := 5120) (N := 256) x0 (tileG i x1 x3)) (Rect.unit ![a, 0] S320x256.size hg))
      (matmul (φ₁ := .bf16) (φ₂ := .bf16) dot_S320x5120_S5120x256_S320x256_1_0_0_1_n_n none
        (View.ld x0 (Rect.unit ![a, 0] S320x5120.size hx)) (tileU i x2 x3) (constant S320x256 .f32 0x00000000#32))) hs

/-- Read at an entry, it is the gated product there. -/
theorem midV_apply (i : grid0.Coords) (x0 : Vec Ideal S1920x5120 .bf16) (x1 x2 : Vec Ideal S5120x256 .fp8e4m3)
    (x3 : Vec Ideal S40x136 .f32) (a h : ℕ) (hx : ∀ b, (![a, 0] : Fin 2 → ℕ) b + S320x5120.size b ≤ S1920x5120.size b)
    (hg : ∀ b, (![a, 0] : Fin 2 → ℕ) b + S320x256.size b ≤ S1920x256.size b) (hs : S320x256.Slices ![0, h] S320x128)
    (z : S320x128.Idx) (y : S1920x256.Idx) (h0 : (y 0).val = a + (z 0).val) (h1 : (y 1).val = h + (z 1).val) :
    midV i x0 x1 x2 x3 a h hx hg hs z = mid i x0 x1 x2 x3 y := by
  have hy1 : (y 1).val < 256 := (y 1).isLt
  refine (extractStridedSlice_apply (![0, h] : Fin 2 → ℕ) _ hs z (ValueIdx.ix2 (z 0) ⟨h + (z 1).val, by omega⟩) fun b => ?_).trans ?_
  · match b with
    | ⟨0, _⟩ => show (z 0).val = 0 + (z 0).val; omega
    | ⟨1, _⟩ => rfl
  · have e : (Rect.unit (s := S1920x256) ![a, 0] S320x256.size hg).idx (ValueIdx.ix2 (z 0) ⟨h + (z 1).val, by omega⟩) = y := funext fun b => Fin.ext (by
      match b with
      | ⟨0, _⟩ => show a + 1 * (z 0).val = (y 0).val; omega
      | ⟨1, _⟩ => show 0 + 1 * (h + (z 1).val) = (y 1).val; omega)
    refine congrArg₂ act ?_ ?_
    · exact congrArg (dot (M := 1920) (K := 5120) (N := 256) x0 (tileG i x1 x3)) e
    · refine (dot_rows (M := 1920) (K := 5120) (N := 256) (R := 320) (φ₁ := .bf16) (φ₂ := .bf16) none x0 (tileU i x2 x3) a hx hg _).trans ?_
      exact congrArg (dot (M := 1920) (K := 5120) (N := 256) x0 (tileU i x2 x3)) e

/-- Its row is the group of columns the entry is in. -/
theorem midV_row (i : grid0.Coords) (x0 : Vec Ideal S1920x5120 .bf16) (x1 x2 : Vec Ideal S5120x256 .fp8e4m3)
    (x3 : Vec Ideal S40x136 .f32) (a h : ℕ) (hx : ∀ b, (![a, 0] : Fin 2 → ℕ) b + S320x5120.size b ≤ S1920x5120.size b)
    (hg : ∀ b, (![a, 0] : Fin 2 → ℕ) b + S320x256.size b ≤ S1920x256.size b) (hs : S320x256.Slices ![0, h] S320x128)
    (hh : h % 128 = 0) (r : Fin 320) (y : S1920x256.Idx) (h0 : (y 0).val = a + r.val) (h1 : (y 1).val / 128 * 128 = h) :
    rowOf (R := 320) (midV i x0 x1 x2 x3 a h hx hg hs) r = group (M := 1920) (N := 256) (NB := 2) rfl (mid i x0 x1 x2 x3) y :=
  funext fun k => midV_apply i x0 x1 x2 x3 a h hx hg hs _ _ h0 (by show (y 1).val / 128 * 128 + k.val = h + k.val; omega)

/-- The codes of a block. -/
def codes (i : grid0.Coords) (x0 : Vec Ideal S1920x5120 .bf16) (x1 x2 : Vec Ideal S5120x256 .fp8e4m3)
    (x3 : Vec Ideal S40x136 .f32) : Mat 1920 256 := fun y =>
  code (group (M := 1920) (N := 256) (NB := 2) rfl (mid i x0 x1 x2 x3) y) (mid i x0 x1 x2 x3 y)

/-- The scale of an entry's group. -/
def scl (i : grid0.Coords) (x0 : Vec Ideal S1920x5120 .bf16) (x1 x2 : Vec Ideal S5120x256 .fp8e4m3)
    (x3 : Vec Ideal S40x136 .f32) : Mat 1920 256 := fun y =>
  scaleOf (thrOf (group (M := 1920) (N := 256) (NB := 2) rfl (mid i x0 x1 x2 x3) y))

/-- One stored piece of the codes. -/
theorem codes_piece (i : grid0.Coords) (x0 : Vec Ideal S1920x5120 .bf16) (x1 x2 : Vec Ideal S5120x256 .fp8e4m3)
    (x3 : Vec Ideal S40x136 .f32) (a h : ℕ) (hx : ∀ b, (![a, 0] : Fin 2 → ℕ) b + S320x5120.size b ≤ S1920x5120.size b)
    (hg : ∀ b, (![a, 0] : Fin 2 → ℕ) b + S320x256.size b ≤ S1920x256.size b) (hs : S320x256.Slices ![0, h] S320x128)
    (hh : h % 128 = 0) (inb : ∀ b, (![a, h] : Fin 2 → ℕ) b + S320x128.size b ≤ S1920x256.size b)
    (x : (Rect.unit (s := S1920x256) ![a, h] S320x128.size inb).shape.Idx) :
    codeV (R := 320) (midV i x0 x1 x2 x3 a h hx hg hs) (thrV (R := 320) (midV i x0 x1 x2 x3 a h hx hg hs) reduces_S320x128_S320 shapeCasts_S320_S320x1)
        broadcasts_S320x1_S320x128 bitsLt_fp8e4m3_f32 x
      = codes i x0 x1 x2 x3 ((Rect.unit (s := S1920x256) ![a, h] S320x128.size inb).emb x) := by
  have hx1 : (x 1).val < 128 := (x 1).isLt
  refine (codeV_apply (R := 320) _ _ _ _ _ x).trans (congrArg₂ code ?_ ?_)
  · refine midV_row i x0 x1 x2 x3 a h hx hg hs hh (x 0) _ ?_ ?_
    · show a + 1 * (x 0).val = a + (x 0).val; omega
    · show (h + 1 * (x 1).val) / 128 * 128 = h; omega
  · refine midV_apply i x0 x1 x2 x3 a h hx hg hs x _ ?_ ?_
    · show a + 1 * (x 0).val = a + (x 0).val; omega
    · show h + 1 * (x 1).val = h + (x 1).val; omega

/-- One stored piece of the dequantised codes. -/
theorem deq_piece (i : grid0.Coords) (x0 : Vec Ideal S1920x5120 .bf16) (x1 x2 : Vec Ideal S5120x256 .fp8e4m3)
    (x3 : Vec Ideal S40x136 .f32) (a h : ℕ) (hx : ∀ b, (![a, 0] : Fin 2 → ℕ) b + S320x5120.size b ≤ S1920x5120.size b)
    (hg : ∀ b, (![a, 0] : Fin 2 → ℕ) b + S320x256.size b ≤ S1920x256.size b) (hs : S320x256.Slices ![0, h] S320x128)
    (hh : h % 128 = 0) (inb : ∀ b, (![a, h] : Fin 2 → ℕ) b + S320x128.size b ≤ S1920x256.size b)
    (x : (Rect.unit (s := S1920x256) ![a, h] S320x128.size inb).shape.Idx) :
    deqV (R := 320) (midV i x0 x1 x2 x3 a h hx hg hs) (thrV (R := 320) (midV i x0 x1 x2 x3 a h hx hg hs) reduces_S320x128_S320 shapeCasts_S320_S320x1)
        broadcasts_S320x1_S320x128 bitsLt_fp8e4m3_f32 bitsLt_fp8e4m3_bf16 bitsLt_bf16_f32 x
      = codes i x0 x1 x2 x3 ((Rect.unit (s := S1920x256) ![a, h] S320x128.size inb).emb x)
        * scl i x0 x1 x2 x3 ((Rect.unit (s := S1920x256) ![a, h] S320x128.size inb).emb x) := by
  have hx1 : (x 1).val < 128 := (x 1).isLt
  refine congrArg₂ (· * ·) (codes_piece i x0 x1 x2 x3 a h hx hg hs hh inb x) ?_
  refine (spread_col (R := 320) _ _ x).trans ((scaleV_apply (R := 320) _ _).trans (congrArg scaleOf ?_))
  refine (thrV_apply (R := 320) _ _ _ (x 0)).trans (congrArg thrOf ?_)
  refine midV_row i x0 x1 x2 x3 a h hx hg hs hh (x 0) _ ?_ ?_
  · show a + 1 * (x 0).val = a + (x 0).val; omega
  · show (h + 1 * (x 1).val) / 128 * 128 = h; omega

/-- The lane number of an entry is 0 in the first column only, and 1 in the second only. -/
theorem lanes : ∀ k : Fin 128, Scalar.select (IntOp.cmpi .eq (BitVec.ofNat 32 (0 * 128 + k.val)) 0#32) true false = decide (k.val = 0)
    ∧ Scalar.select (IntOp.cmpi .eq (BitVec.ofNat 32 (0 * 128 + k.val)) 1#32) true false = decide (k.val = 1) := by decide +kernel

/-- A choice by a lane number. -/
theorem select_of {α : Type} (c : BitVec 1) (p : Prop) [Decidable p] (h : Scalar.select c true false = decide p) (a b : α) :
    Scalar.select c a b = if p then a else b := by
  unfold Scalar.select at h ⊢
  by_cases hp : p
  · rw [if_pos hp]
    split at h
    · next hc => rw [if_pos hc]
    · simp [hp] at h
  · rw [if_neg hp]
    split at h
    · simp [hp] at h
    · next hc => rw [if_neg hc]

/-- The two scales of each row in the first two columns, zero in the others: a block of rows, as vector operations. -/
def scalesV (t0 t1 : FVec Ideal S320x1 .f32) : FVec Ideal S320x128 .f32 :=
  select (cmpi .eq (iota .tc S320x128 32 [1] iota_S320x128_d1_w32) (broadcast S320x128 1#32))
    (broadcastTo S320x128 (shapeCast S320x1 (scaleV (R := 320) t1) shapeCasts_S320x1_S320x1) broadcasts_S320x1_S320x128)
    (select (cmpi .eq (iota .tc S320x128 32 [1] iota_S320x128_d1_w32) (broadcast S320x128 0#32))
      (broadcastTo S320x128 (shapeCast S320x1 (scaleV (R := 320) t0) shapeCasts_S320x1_S320x1) broadcasts_S320x1_S320x128)
      (broadcast S320x128 (Scalar.ofBits .f32 0x00000000#32)))

/-- Read at an entry. -/
theorem scalesV_apply (t0 t1 : FVec Ideal S320x1 .f32) (z : S320x128.Idx) :
    scalesV t0 t1 z = if (z 1).val = 1 then scaleOf (t1 (ValueIdx.ix2 (z 0) 0))
      else if (z 1).val = 0 then scaleOf (t0 (ValueIdx.ix2 (z 0) 0)) else 0 := by
  have e : ∀ t : FVec Ideal S320x1 .f32,
      broadcastTo S320x128 (shapeCast S320x1 (scaleV (R := 320) t) shapeCasts_S320x1_S320x1) broadcasts_S320x1_S320x128 z
        = scaleOf (t (ValueIdx.ix2 (z 0) 0)) := fun t => by
    rw [shapeCast_self]
    exact (spread_col (R := 320) _ _ z).trans (scaleV_apply (R := 320) t _)
  refine (select_of _ ((z 1).val = 1) (lanes (z 1)).2 _ _).trans ?_
  rw [e t1]
  refine if_congr Iff.rfl rfl ?_
  refine (select_of _ ((z 1).val = 0) (lanes (z 1)).1 _ _).trans ?_
  rw [e t0]
  exact if_congr Iff.rfl rfl Ideal.ofBits_zero_f32

/-- The block of scales: the scales of a row's two groups in the first two columns, zero in the others. -/
def scales (i : grid0.Coords) (x0 : Vec Ideal S1920x5120 .bf16) (x1 x2 : Vec Ideal S5120x256 .fp8e4m3)
    (x3 : Vec Ideal S40x136 .f32) : Vec Ideal S1x1920x128 .f32 := fun y =>
  if h : (y 2).val < 2 then scl i x0 x1 x2 x3 (ValueIdx.ix2 (y 1) ⟨(y 2).val * 128, by omega⟩) else (0 : EReal)

/-- One stored piece of the scales. -/
theorem scales_piece (i : grid0.Coords) (x0 : Vec Ideal S1920x5120 .bf16) (x1 x2 : Vec Ideal S5120x256 .fp8e4m3)
    (x3 : Vec Ideal S40x136 .f32) (a : ℕ) (hx : ∀ b, (![a, 0] : Fin 2 → ℕ) b + S320x5120.size b ≤ S1920x5120.size b)
    (hg : ∀ b, (![a, 0] : Fin 2 → ℕ) b + S320x256.size b ≤ S1920x256.size b) (hs : S320x256.Slices ![0, 0] S320x128)
    (hs' : S320x256.Slices ![0, 128] S320x128)
    (inb : ∀ b, (![0, a, 0] : Fin 3 → ℕ) b + S1x320x128.size b ≤ S1x1920x128.size b)
    (x : (Rect.unit (s := S1x1920x128) ![0, a, 0] S1x320x128.size inb).shape.Idx) :
    shapeCast S1x320x128 (scalesV
        (thrV (R := 320) (midV i x0 x1 x2 x3 a 0 hx hg hs) reduces_S320x128_S320 shapeCasts_S320_S320x1)
        (thrV (R := 320) (midV i x0 x1 x2 x3 a 128 hx hg hs') reduces_S320x128_S320 shapeCasts_S320_S320x1))
        shapeCasts_S320x128_S1x320x128 x
      = scales i x0 x1 x2 x3 ((Rect.unit (s := S1x1920x128) ![0, a, 0] S1x320x128.size inb).emb x) := by
  have hx0 : (x 0).val < 1 := (x 0).isLt
  have hx1 : (x 1).val < 320 := (x 1).isLt
  have hx2 : (x 2).val < 128 := (x 2).isLt
  refine (shapeCast_apply _ _ x (ValueIdx.ix2 ⟨(x 1).val, hx1⟩ ⟨(x 2).val, hx2⟩ : S320x128.Idx) ?_).trans ?_
  · rw [Shape.rowMajor_val_two, Shape.rowMajor_val_three]
    show (x 1).val * 128 + (x 2).val = ((x 0).val * 320 + (x 1).val) * 128 + (x 2).val
    omega
  refine (scalesV_apply _ _ _).trans ?_
  have e2 : (((Rect.unit (s := S1x1920x128) ![0, a, 0] S1x320x128.size inb).emb x) 2).val = (x 2).val := by
    show 0 + 1 * (x 2).val = (x 2).val; omega
  have e1 : (((Rect.unit (s := S1x1920x128) ![0, a, 0] S1x320x128.size inb).emb x) 1).val = a + (x 1).val := by
    show a + 1 * (x 1).val = a + (x 1).val; omega
  show (if (x 2).val = 1 then _ else if (x 2).val = 0 then _ else (0 : EReal)) = _
  unfold scales
  by_cases h1 : (x 2).val = 1
  · rw [if_pos h1, dif_pos (by omega)]
    refine congrArg scaleOf ((thrV_apply (R := 320) _ _ _ _).trans (congrArg thrOf ?_))
    refine midV_row i x0 x1 x2 x3 a 128 hx hg hs' rfl _ _ e1 ?_
    show (((Rect.unit (s := S1x1920x128) ![0, a, 0] S1x320x128.size inb).emb x) 2).val * 128 / 128 * 128 = 128
    omega
  · rw [if_neg h1]
    by_cases h0 : (x 2).val = 0
    · rw [if_pos h0, dif_pos (by omega)]
      refine congrArg scaleOf ((thrV_apply (R := 320) _ _ _ _).trans (congrArg thrOf ?_))
      refine midV_row i x0 x1 x2 x3 a 0 hx hg hs rfl _ _ e1 ?_
      show (((Rect.unit (s := S1x1920x128) ![0, a, 0] S1x320x128.size inb).emb x) 2).val * 128 / 128 * 128 = 0
      omega
    · rw [if_neg h0, dif_neg (by omega)]

set_option maxHeartbeats 8000000 in
/-- What the body leaves in the block of codes. -/
theorem out_eq4 (c : Dev nD) (i : grid0.Coords) (arg1 : Memref sig .tc .vmem S1920x5120 .bf16) (harg1 : arg1.IsWhole) (arg2 : Memref sig .tc .vmem S5120x256 .fp8e4m3) (harg2 : arg2.IsWhole) (arg3 : Memref sig .tc .vmem S5120x256 .fp8e4m3) (harg3 : arg3.IsWhole) (arg4 : Memref sig .tc .smem S40x136 .f32) (harg4 : arg4.IsWhole) (arg5 : Memref sig .tc .vmem S1920x256 .fp8e4m3) (harg5 : arg5.IsWhole) (arg6 : Memref sig .tc .vmem S1x1920x128 .f32) (harg6 : arg6.IsWhole) (arg7 : Memref sig .tc .vmem S1920x256 .bf16) (harg7 : arg7.IsWhole) (arg8 : Memref sig .tc .vmem S5120x256 .bf16) (harg8 : arg8.IsWhole) (arg9 : Memref sig .tc .vmem S1920x256 .f32) (harg9 : arg9.IsWhole)
    (x0 : Vec Ideal S1920x5120 .bf16) (x1 x2 : Vec Ideal S5120x256 .fp8e4m3) (x3 : Vec Ideal S40x136 .f32) :
    out0_A_4 (F := Ideal) c i arg1 harg1 arg2 harg2 arg3 harg3 arg4 harg4 arg5 harg5 arg6 harg6 arg7 harg7 arg8 harg8 arg9 harg9 x0 x1 x2 x3 = codes i x0 x1 x2 x3 := by
  unfold out0_A_4
  rw [View.read_writes_eq_canon _ _ _ (cover0_A_4 c i arg1 harg1 arg2 harg2 arg3 harg3 arg4 harg4 arg5 harg5 arg6 harg6 arg7 harg7 arg8 harg8 arg9 harg9 x0 x1 x2 x3)]
  funext y
  refine View.canon_apply_of_pieces (codes i x0 x1 x2 x3) _ ?_ y (cover0_A_4 c i arg1 harg1 arg2 harg2 arg3 harg3 arg4 harg4 arg5 harg5 arg6 harg6 arg7 harg7 arg8 harg8 arg9 harg9 x0 x1 x2 x3 y)
  unfold kernelRun0_A
  dsimp only
  simp only [kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214, kernelRun0_A.sl.r_215, kernelRun0_A.sl.r_216, kernelRun0_A.sl.r_217, kernelRun0_A.sl.r_218, kernelRun0_A.sl.r_219, kernelRun0_A.sl.r_220, kernelRun0_A.sl.r_221, kernelRun0_A.sl.r_222, kernelRun0_A.sl.r_223, kernelRun0_A.sl.r_224, kernelRun0_A.sl.r_225, kernelRun0_A.sl.r_226, kernelRun0_A.sl.r_227, kernelRun0_A.sl.r_228, kernelRun0_A.sl.r_229, kernelRun0_A.sl.r_230, kernelRun0_A.sl.r_231, kernelRun0_A.sl.r_232, kernelRun0_A.sl.r_233, kernelRun0_A.sl.r_234, kernelRun0_A.sl.r_235, kernelRun0_A.sl.r_236, kernelRun0_A.sl.r_237, kernelRun0_A.sl.r_238, kernelRun0_A.sl.r_239, kernelRun0_A.sl.r_240, kernelRun0_A.sl.r_241, kernelRun0_A.sl.r_242, kernelRun0_A.sl.r_243, kernelRun0_A.sl.r_244, kernelRun0_A.sl.r_245, kernelRun0_A.sl.r_246, kernelRun0_A.sl.r_247, kernelRun0_A.sl.r_248, kernelRun0_A.sl.r_249, kernelRun0_A.sl.r_250, kernelRun0_A.sl.r_251, kernelRun0_A.sl.r_252, kernelRun0_A.sl.r_253, kernelRun0_A.sl.r_254, kernelRun0_A.sl.r_255, kernelRun0_A.sl.r_256, kernelRun0_A.sl.r_257, kernelRun0_A.sl.r_258, kernelRun0_A.sl.r_259, kernelRun0_A.sl.r_260, kernelRun0_A.sl.r_261, kernelRun0_A.sl.r_262, kernelRun0_A.sl.r_263, kernelRun0_A.sl.r_264, kernelRun0_A.sl.r_265, kernelRun0_A.sl.r_266, kernelRun0_A.sl.r_267, kernelRun0_A.sl.r_268, kernelRun0_A.sl.r_269, kernelRun0_A.sl.r_270, kernelRun0_A.sl.r_271, kernelRun0_A.sl.r_272, kernelRun0_A.sl.r_273, kernelRun0_A.sl.r_274, kernelRun0_A.sl.r_275, kernelRun0_A.sl.r_276, kernelRun0_A.sl.r_277, kernelRun0_A.sl.r_278, kernelRun0_A.sl.r_279, kernelRun0_A.sl.r_280, kernelRun0_A.sl.r_281, kernelRun0_A.sl.r_282, kernelRun0_A.sl.r_283, kernelRun0_A.sl.r_284, kernelRun0_A.sl.r_285, kernelRun0_A.sl.r_286, kernelRun0_A.sl.r_287, kernelRun0_A.sl.r_288, kernelRun0_A.sl.r_289, kernelRun0_A.sl.r_290, kernelRun0_A.sl.r_291, kernelRun0_A.sl.r_292, kernelRun0_A.sl.r_293, kernelRun0_A.sl.r_294, kernelRun0_A.sl.r_295, kernelRun0_A.sl.v1803, kernelRun0_A.sl.v2018, kernelRun0_A.sl.v2233, kernelRun0_A.sl.v2448, kernelRun0_A.sl.v2663, kernelRun0_A.sl.v2878, weightU, gRead, View.readAt_eq_ld, harg1.read_unread]
  repeat' refine List.forall_mem_cons.2 ⟨?_, ?_⟩
  · exact codes_piece i x0 x1 x2 x3 1600 128 (by decide) (by decide) (by decide) rfl (by decide)
  · exact codes_piece i x0 x1 x2 x3 1600 0 (by decide) (by decide) (by decide) rfl (by decide)
  · exact codes_piece i x0 x1 x2 x3 1280 128 (by decide) (by decide) (by decide) rfl (by decide)
  · exact codes_piece i x0 x1 x2 x3 1280 0 (by decide) (by decide) (by decide) rfl (by decide)
  · exact codes_piece i x0 x1 x2 x3 960 128 (by decide) (by decide) (by decide) rfl (by decide)
  · exact codes_piece i x0 x1 x2 x3 960 0 (by decide) (by decide) (by decide) rfl (by decide)
  · exact codes_piece i x0 x1 x2 x3 640 128 (by decide) (by decide) (by decide) rfl (by decide)
  · exact codes_piece i x0 x1 x2 x3 640 0 (by decide) (by decide) (by decide) rfl (by decide)
  · exact codes_piece i x0 x1 x2 x3 320 128 (by decide) (by decide) (by decide) rfl (by decide)
  · exact codes_piece i x0 x1 x2 x3 320 0 (by decide) (by decide) (by decide) rfl (by decide)
  · exact codes_piece i x0 x1 x2 x3 0 128 (by decide) (by decide) (by decide) rfl (by decide)
  · exact codes_piece i x0 x1 x2 x3 0 0 (by decide) (by decide) (by decide) rfl (by decide)
  · exact List.forall_mem_nil _

set_option maxHeartbeats 8000000 in
/-- What the body leaves in the block of scales. -/
theorem out_eq5 (c : Dev nD) (i : grid0.Coords) (arg1 : Memref sig .tc .vmem S1920x5120 .bf16) (harg1 : arg1.IsWhole) (arg2 : Memref sig .tc .vmem S5120x256 .fp8e4m3) (harg2 : arg2.IsWhole) (arg3 : Memref sig .tc .vmem S5120x256 .fp8e4m3) (harg3 : arg3.IsWhole) (arg4 : Memref sig .tc .smem S40x136 .f32) (harg4 : arg4.IsWhole) (arg5 : Memref sig .tc .vmem S1920x256 .fp8e4m3) (harg5 : arg5.IsWhole) (arg6 : Memref sig .tc .vmem S1x1920x128 .f32) (harg6 : arg6.IsWhole) (arg7 : Memref sig .tc .vmem S1920x256 .bf16) (harg7 : arg7.IsWhole) (arg8 : Memref sig .tc .vmem S5120x256 .bf16) (harg8 : arg8.IsWhole) (arg9 : Memref sig .tc .vmem S1920x256 .f32) (harg9 : arg9.IsWhole)
    (x0 : Vec Ideal S1920x5120 .bf16) (x1 x2 : Vec Ideal S5120x256 .fp8e4m3) (x3 : Vec Ideal S40x136 .f32) :
    out0_A_5 (F := Ideal) c i arg1 harg1 arg2 harg2 arg3 harg3 arg4 harg4 arg5 harg5 arg6 harg6 arg7 harg7 arg8 harg8 arg9 harg9 x0 x1 x2 x3 = scales i x0 x1 x2 x3 := by
  unfold out0_A_5
  rw [View.read_writes_eq_canon _ _ _ (cover0_A_5 c i arg1 harg1 arg2 harg2 arg3 harg3 arg4 harg4 arg5 harg5 arg6 harg6 arg7 harg7 arg8 harg8 arg9 harg9 x0 x1 x2 x3)]
  funext y
  refine View.canon_apply_of_pieces (scales i x0 x1 x2 x3) _ ?_ y (cover0_A_5 c i arg1 harg1 arg2 harg2 arg3 harg3 arg4 harg4 arg5 harg5 arg6 harg6 arg7 harg7 arg8 harg8 arg9 harg9 x0 x1 x2 x3 y)
  unfold kernelRun0_A
  dsimp only
  simp only [kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214, kernelRun0_A.sl.r_215, kernelRun0_A.sl.r_216, kernelRun0_A.sl.r_217, kernelRun0_A.sl.r_218, kernelRun0_A.sl.r_219, kernelRun0_A.sl.r_220, kernelRun0_A.sl.r_221, kernelRun0_A.sl.r_222, kernelRun0_A.sl.r_223, kernelRun0_A.sl.r_224, kernelRun0_A.sl.r_225, kernelRun0_A.sl.r_226, kernelRun0_A.sl.r_227, kernelRun0_A.sl.r_228, kernelRun0_A.sl.r_229, kernelRun0_A.sl.r_230, kernelRun0_A.sl.r_231, kernelRun0_A.sl.r_232, kernelRun0_A.sl.r_233, kernelRun0_A.sl.r_234, kernelRun0_A.sl.r_235, kernelRun0_A.sl.r_236, kernelRun0_A.sl.r_237, kernelRun0_A.sl.r_238, kernelRun0_A.sl.r_239, kernelRun0_A.sl.r_240, kernelRun0_A.sl.r_241, kernelRun0_A.sl.r_242, kernelRun0_A.sl.r_243, kernelRun0_A.sl.r_244, kernelRun0_A.sl.r_245, kernelRun0_A.sl.r_246, kernelRun0_A.sl.r_247, kernelRun0_A.sl.r_248, kernelRun0_A.sl.r_249, kernelRun0_A.sl.r_250, kernelRun0_A.sl.r_251, kernelRun0_A.sl.r_252, kernelRun0_A.sl.r_253, kernelRun0_A.sl.r_254, kernelRun0_A.sl.r_255, kernelRun0_A.sl.r_256, kernelRun0_A.sl.r_257, kernelRun0_A.sl.r_258, kernelRun0_A.sl.r_259, kernelRun0_A.sl.r_260, kernelRun0_A.sl.r_261, kernelRun0_A.sl.r_262, kernelRun0_A.sl.r_263, kernelRun0_A.sl.r_264, kernelRun0_A.sl.r_265, kernelRun0_A.sl.r_266, kernelRun0_A.sl.r_267, kernelRun0_A.sl.r_268, kernelRun0_A.sl.r_269, kernelRun0_A.sl.r_270, kernelRun0_A.sl.r_271, kernelRun0_A.sl.r_272, kernelRun0_A.sl.r_273, kernelRun0_A.sl.r_274, kernelRun0_A.sl.r_275, kernelRun0_A.sl.r_276, kernelRun0_A.sl.r_277, kernelRun0_A.sl.r_278, kernelRun0_A.sl.r_279, kernelRun0_A.sl.r_280, kernelRun0_A.sl.r_281, kernelRun0_A.sl.r_282, kernelRun0_A.sl.r_283, kernelRun0_A.sl.r_284, kernelRun0_A.sl.r_285, kernelRun0_A.sl.r_286, kernelRun0_A.sl.r_287, kernelRun0_A.sl.r_288, kernelRun0_A.sl.r_289, kernelRun0_A.sl.r_290, kernelRun0_A.sl.r_291, kernelRun0_A.sl.r_292, kernelRun0_A.sl.r_293, kernelRun0_A.sl.r_294, kernelRun0_A.sl.r_295, kernelRun0_A.sl.v1803, kernelRun0_A.sl.v2018, kernelRun0_A.sl.v2233, kernelRun0_A.sl.v2448, kernelRun0_A.sl.v2663, kernelRun0_A.sl.v2878, weightU, gRead, View.readAt_eq_ld, harg1.read_unread]
  repeat' refine List.forall_mem_cons.2 ⟨?_, ?_⟩
  · exact scales_piece i x0 x1 x2 x3 1600 (by decide) (by decide) (by decide) (by decide) (by decide)
  · exact scales_piece i x0 x1 x2 x3 1280 (by decide) (by decide) (by decide) (by decide) (by decide)
  · exact scales_piece i x0 x1 x2 x3 960 (by decide) (by decide) (by decide) (by decide) (by decide)
  · exact scales_piece i x0 x1 x2 x3 640 (by decide) (by decide) (by decide) (by decide) (by decide)
  · exact scales_piece i x0 x1 x2 x3 320 (by decide) (by decide) (by decide) (by decide) (by decide)
  · exact scales_piece i x0 x1 x2 x3 0 (by decide) (by decide) (by decide) (by decide) (by decide)
  · exact List.forall_mem_nil _

set_option maxHeartbeats 8000000 in
/-- What the body leaves in the block of dequantised codes. -/
theorem out_eq6 (c : Dev nD) (i : grid0.Coords) (arg1 : Memref sig .tc .vmem S1920x5120 .bf16) (harg1 : arg1.IsWhole) (arg2 : Memref sig .tc .vmem S5120x256 .fp8e4m3) (harg2 : arg2.IsWhole) (arg3 : Memref sig .tc .vmem S5120x256 .fp8e4m3) (harg3 : arg3.IsWhole) (arg4 : Memref sig .tc .smem S40x136 .f32) (harg4 : arg4.IsWhole) (arg5 : Memref sig .tc .vmem S1920x256 .fp8e4m3) (harg5 : arg5.IsWhole) (arg6 : Memref sig .tc .vmem S1x1920x128 .f32) (harg6 : arg6.IsWhole) (arg7 : Memref sig .tc .vmem S1920x256 .bf16) (harg7 : arg7.IsWhole) (arg8 : Memref sig .tc .vmem S5120x256 .bf16) (harg8 : arg8.IsWhole) (arg9 : Memref sig .tc .vmem S1920x256 .f32) (harg9 : arg9.IsWhole)
    (x0 : Vec Ideal S1920x5120 .bf16) (x1 x2 : Vec Ideal S5120x256 .fp8e4m3) (x3 : Vec Ideal S40x136 .f32) :
    out0_A_6 (F := Ideal) c i arg1 harg1 arg2 harg2 arg3 harg3 arg4 harg4 arg5 harg5 arg6 harg6 arg7 harg7 arg8 harg8 arg9 harg9 x0 x1 x2 x3 = fun y => codes i x0 x1 x2 x3 y * scl i x0 x1 x2 x3 y := by
  unfold out0_A_6
  rw [View.read_writes_eq_canon _ _ _ (cover0_A_6 c i arg1 harg1 arg2 harg2 arg3 harg3 arg4 harg4 arg5 harg5 arg6 harg6 arg7 harg7 arg8 harg8 arg9 harg9 x0 x1 x2 x3)]
  funext y
  refine View.canon_apply_of_pieces (fun y => codes i x0 x1 x2 x3 y * scl i x0 x1 x2 x3 y) _ ?_ y (cover0_A_6 c i arg1 harg1 arg2 harg2 arg3 harg3 arg4 harg4 arg5 harg5 arg6 harg6 arg7 harg7 arg8 harg8 arg9 harg9 x0 x1 x2 x3 y)
  unfold kernelRun0_A
  dsimp only
  simp only [kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214, kernelRun0_A.sl.r_215, kernelRun0_A.sl.r_216, kernelRun0_A.sl.r_217, kernelRun0_A.sl.r_218, kernelRun0_A.sl.r_219, kernelRun0_A.sl.r_220, kernelRun0_A.sl.r_221, kernelRun0_A.sl.r_222, kernelRun0_A.sl.r_223, kernelRun0_A.sl.r_224, kernelRun0_A.sl.r_225, kernelRun0_A.sl.r_226, kernelRun0_A.sl.r_227, kernelRun0_A.sl.r_228, kernelRun0_A.sl.r_229, kernelRun0_A.sl.r_230, kernelRun0_A.sl.r_231, kernelRun0_A.sl.r_232, kernelRun0_A.sl.r_233, kernelRun0_A.sl.r_234, kernelRun0_A.sl.r_235, kernelRun0_A.sl.r_236, kernelRun0_A.sl.r_237, kernelRun0_A.sl.r_238, kernelRun0_A.sl.r_239, kernelRun0_A.sl.r_240, kernelRun0_A.sl.r_241, kernelRun0_A.sl.r_242, kernelRun0_A.sl.r_243, kernelRun0_A.sl.r_244, kernelRun0_A.sl.r_245, kernelRun0_A.sl.r_246, kernelRun0_A.sl.r_247, kernelRun0_A.sl.r_248, kernelRun0_A.sl.r_249, kernelRun0_A.sl.r_250, kernelRun0_A.sl.r_251, kernelRun0_A.sl.r_252, kernelRun0_A.sl.r_253, kernelRun0_A.sl.r_254, kernelRun0_A.sl.r_255, kernelRun0_A.sl.r_256, kernelRun0_A.sl.r_257, kernelRun0_A.sl.r_258, kernelRun0_A.sl.r_259, kernelRun0_A.sl.r_260, kernelRun0_A.sl.r_261, kernelRun0_A.sl.r_262, kernelRun0_A.sl.r_263, kernelRun0_A.sl.r_264, kernelRun0_A.sl.r_265, kernelRun0_A.sl.r_266, kernelRun0_A.sl.r_267, kernelRun0_A.sl.r_268, kernelRun0_A.sl.r_269, kernelRun0_A.sl.r_270, kernelRun0_A.sl.r_271, kernelRun0_A.sl.r_272, kernelRun0_A.sl.r_273, kernelRun0_A.sl.r_274, kernelRun0_A.sl.r_275, kernelRun0_A.sl.r_276, kernelRun0_A.sl.r_277, kernelRun0_A.sl.r_278, kernelRun0_A.sl.r_279, kernelRun0_A.sl.r_280, kernelRun0_A.sl.r_281, kernelRun0_A.sl.r_282, kernelRun0_A.sl.r_283, kernelRun0_A.sl.r_284, kernelRun0_A.sl.r_285, kernelRun0_A.sl.r_286, kernelRun0_A.sl.r_287, kernelRun0_A.sl.r_288, kernelRun0_A.sl.r_289, kernelRun0_A.sl.r_290, kernelRun0_A.sl.r_291, kernelRun0_A.sl.r_292, kernelRun0_A.sl.r_293, kernelRun0_A.sl.r_294, kernelRun0_A.sl.r_295, kernelRun0_A.sl.v1803, kernelRun0_A.sl.v2018, kernelRun0_A.sl.v2233, kernelRun0_A.sl.v2448, kernelRun0_A.sl.v2663, kernelRun0_A.sl.v2878, weightU, gRead, View.readAt_eq_ld, harg1.read_unread]
  repeat' refine List.forall_mem_cons.2 ⟨?_, ?_⟩
  · exact deq_piece i x0 x1 x2 x3 1600 128 (by decide) (by decide) (by decide) rfl (by decide)
  · exact deq_piece i x0 x1 x2 x3 1600 0 (by decide) (by decide) (by decide) rfl (by decide)
  · exact deq_piece i x0 x1 x2 x3 1280 128 (by decide) (by decide) (by decide) rfl (by decide)
  · exact deq_piece i x0 x1 x2 x3 1280 0 (by decide) (by decide) (by decide) rfl (by decide)
  · exact deq_piece i x0 x1 x2 x3 960 128 (by decide) (by decide) (by decide) rfl (by decide)
  · exact deq_piece i x0 x1 x2 x3 960 0 (by decide) (by decide) (by decide) rfl (by decide)
  · exact deq_piece i x0 x1 x2 x3 640 128 (by decide) (by decide) (by decide) rfl (by decide)
  · exact deq_piece i x0 x1 x2 x3 640 0 (by decide) (by decide) (by decide) rfl (by decide)
  · exact deq_piece i x0 x1 x2 x3 320 128 (by decide) (by decide) (by decide) rfl (by decide)
  · exact deq_piece i x0 x1 x2 x3 320 0 (by decide) (by decide) (by decide) rfl (by decide)
  · exact deq_piece i x0 x1 x2 x3 0 128 (by decide) (by decide) (by decide) rfl (by decide)
  · exact deq_piece i x0 x1 x2 x3 0 0 (by decide) (by decide) (by decide) rfl (by decide)
  · exact List.forall_mem_nil _

end Cert.GateUpIdeal.Rows

end
-- ==== Proof.GateUpValue.lean ====
module

public import proofs.«01_k».proof.Proof.GateUpBlock

/-! The gate and up projections: the kernel's three result arrays as functions of the arguments. -/

@[expose] public section

set_option maxRecDepth 16384

noncomputable section

namespace Cert.GateUpIdeal.Rows

open Cert.GateUpIdeal Cert.GateUpIdeal.Gen Idealize.ShloMosaic Idealize.ShloMosaic.TcCoe Idealize.SL.Sem
open Idealize.ShloMosaic.ValueIdx
open Idealize.ShloMosaic.Pipeline (Dat)
open Cert.Linear Cert.Quant

variable (m : (ℓ : Loc nD τ sig) → Buf (Elt Ideal) ℓ) (ρ : Dev nD → PrngReg)

/-- Where the input windows' blocks sit at a grid point. -/
theorem idx_in : ∀ t : Fin cfg0.N,
    win0_0.index t (0 : Fin 2) = 0 ∧ win0_0.index t (1 : Fin 2) = 0 ∧ win0_1.index t (0 : Fin 2) = 0
      ∧ win0_1.index t (1 : Fin 2) = (grid0.coords t 0).val ∧ win0_2.index t (0 : Fin 2) = 0
      ∧ win0_2.index t (1 : Fin 2) = 34 + (grid0.coords t 0).val ∧ win0_3.index t (0 : Fin 2) = 0 ∧ win0_3.index t (1 : Fin 2) = 0 :=
  (by decide +kernel : ∀ t : Fin grid0.N, _)

/-- Where the output windows' blocks sit at a grid point. -/
theorem idx_out : ∀ t : Fin cfg0.N,
    win0_4.index t (0 : Fin 2) = 0 ∧ win0_4.index t (1 : Fin 2) = (grid0.coords t 0).val
      ∧ win0_5.index t (0 : Fin 3) = (grid0.coords t 0).val ∧ win0_5.index t (1 : Fin 3) = 0 ∧ win0_5.index t (2 : Fin 3) = 0
      ∧ win0_6.index t (0 : Fin 2) = 0 ∧ win0_6.index t (1 : Fin 2) = (grid0.coords t 0).val :=
  (by decide +kernel : ∀ t : Fin grid0.N, _)

/-- A grid point's gated products are those of the whole layer at its columns. -/
theorem mid_eq (c : Dev nD) (t : Fin cfg0.N) (y : (⟨2, ![1920, 256]⟩ : Shape).Idx) (Y : (⟨2, ![1920, 8704]⟩ : Shape).Idx)
    (h0 : (Y 0).val = (y 0).val) (h1 : (Y 1).val = (grid0.coords t 0).val * 256 + (y 1).val) :
    mid (grid0.coords t) (iblk m c 0 t) (iblk m c 1 t) (iblk m c 2 t) (iblk m c 3 t) y
      = midW (V m c main_arg0) (V m c main_arg1) (V m c main_arg2) Y := by
  obtain ⟨e00, e01, e10, e11, e20, e21, e30, e31⟩ := idx_in t
  refine congrArg₂ act
    (Finset.sum_congr rfl fun k _ => congrArg₂ (· * ·) (congrArg (V m c main_arg0) (funext fun a => Fin.ext ?_))
      (congrArg₂ (· * ·) (congrArg (V m c main_arg1) (funext fun a => Fin.ext ?_))
        (congrArg (V m c main_arg2) (funext fun a => Fin.ext ?_))))
    (Finset.sum_congr rfl fun k _ => congrArg₂ (· * ·) (congrArg (V m c main_arg0) (funext fun a => Fin.ext ?_))
      (congrArg₂ (· * ·) (congrArg (V m c main_arg1) (funext fun a => Fin.ext ?_))
        (congrArg (V m c main_arg2) (funext fun a => Fin.ext ?_))))
  · match a with
    | ⟨0, _⟩ => show win0_0.index t (0 : Fin 2) * 1920 + 1 * (y 0).val = (Y 0).val; omega
    | ⟨1, _⟩ => show win0_0.index t (1 : Fin 2) * 5120 + 1 * k.val = k.val; omega
  · match a with
    | ⟨0, _⟩ => show win0_1.index t (0 : Fin 2) * 5120 + 1 * k.val = k.val; omega
    | ⟨1, _⟩ => show win0_1.index t (1 : Fin 2) * 256 + 1 * (y 1).val = (Y 1).val; omega
  · match a with
    | ⟨0, _⟩ => show win0_3.index t (0 : Fin 2) * 40 + 1 * (k.val / 128) = k.val / 128; omega
    | ⟨1, _⟩ =>
      show win0_3.index t (1 : Fin 2) * 136 + 1 * (2 * (grid0.coords t 0).val + (y 1).val / 128) = (Y 1).val / 128
      omega
  · match a with
    | ⟨0, _⟩ => show win0_0.index t (0 : Fin 2) * 1920 + 1 * (y 0).val = (Y 0).val; omega
    | ⟨1, _⟩ => show win0_0.index t (1 : Fin 2) * 5120 + 1 * k.val = k.val; omega
  · match a with
    | ⟨0, _⟩ => show win0_2.index t (0 : Fin 2) * 5120 + 1 * k.val = k.val; omega
    | ⟨1, _⟩ => show win0_2.index t (1 : Fin 2) * 256 + 1 * (y 1).val = 8704 + (Y 1).val; omega
  · match a with
    | ⟨0, _⟩ => show win0_3.index t (0 : Fin 2) * 40 + 1 * (k.val / 128) = k.val / 128; omega
    | ⟨1, _⟩ =>
      show win0_3.index t (1 : Fin 2) * 136 + 1 * (68 + 2 * (grid0.coords t 0).val + (y 1).val / 128) = (8704 + (Y 1).val) / 128
      omega

/-- So are its groups. -/
theorem group_eq (c : Dev nD) (t : Fin cfg0.N) (y : (⟨2, ![1920, 256]⟩ : Shape).Idx) (Y : (⟨2, ![1920, 8704]⟩ : Shape).Idx)
    (h0 : (Y 0).val = (y 0).val) (h1 : (Y 1).val = (grid0.coords t 0).val * 256 + (y 1).val) :
    group (M := 1920) (N := 256) (NB := 2) rfl (mid (grid0.coords t) (iblk m c 0 t) (iblk m c 1 t) (iblk m c 2 t) (iblk m c 3 t)) y
      = group (M := 1920) (N := 8704) (NB := 68) rfl (midW (V m c main_arg0) (V m c main_arg1) (V m c main_arg2)) Y :=
  funext fun k => mid_eq m c t _ _ h0 (by
    show (Y 1).val / 128 * 128 + k.val = (grid0.coords t 0).val * 256 + ((y 1).val / 128 * 128 + k.val)
    omega)

/-- Its codes are the layer's. -/
theorem codes_eq (c : Dev nD) (t : Fin cfg0.N) (y : (⟨2, ![1920, 256]⟩ : Shape).Idx) (Y : (⟨2, ![1920, 8704]⟩ : Shape).Idx)
    (h0 : (Y 0).val = (y 0).val) (h1 : (Y 1).val = (grid0.coords t 0).val * 256 + (y 1).val) :
    codes (grid0.coords t) (iblk m c 0 t) (iblk m c 1 t) (iblk m c 2 t) (iblk m c 3 t) y
      = codesW (V m c main_arg0) (V m c main_arg1) (V m c main_arg2) Y :=
  congrArg₂ code (group_eq m c t y Y h0 h1) (mid_eq m c t y Y h0 h1)

/-- Its scales are the layer's. -/
theorem scl_eq (c : Dev nD) (t : Fin cfg0.N) (y : (⟨2, ![1920, 256]⟩ : Shape).Idx) (Y : (⟨2, ![1920, 8704]⟩ : Shape).Idx)
    (h0 : (Y 0).val = (y 0).val) (h1 : (Y 1).val = (grid0.coords t 0).val * 256 + (y 1).val) :
    scl (grid0.coords t) (iblk m c 0 t) (iblk m c 1 t) (iblk m c 2 t) (iblk m c 3 t) y
      = sclW (V m c main_arg0) (V m c main_arg1) (V m c main_arg2) Y :=
  congrArg (fun r => scaleOf (thrOf r)) (group_eq m c t y Y h0 h1)

/-- The dequantised codes of the whole layer. -/
def deqW (a0 : Mat 1920 5120) (a1 : Mat 5120 17408) (a2 : Mat 40 136) : Mat 1920 8704 := fun y =>
  codesW a0 a1 a2 y * sclW a0 a1 a2 y

/-- What a grid point writes back of the codes. -/
theorem flushed_eq4 (c : Dev nD) (t : Fin cfg0.N) :
    (dats m 0 c).flushed 4 t = ((cfg0.win 4).blk t).view.read (Elt Ideal)
      (codesW (V m c main_arg0) (V m c main_arg1) (V m c main_arg2) : Vec Ideal S1920x8704 .fp8e4m3) := by
  rw [Value.flushed4_A, out_eq4]
  obtain ⟨e40, e41, -⟩ := idx_out t
  funext j
  refine codes_eq m c t j _ ?_ ?_
  · show win0_4.index t (0 : Fin 2) * 1920 + 1 * (j 0).val = (j 0).val; omega
  · show win0_4.index t (1 : Fin 2) * 256 + 1 * (j 1).val = (grid0.coords t 0).val * 256 + (j 1).val; omega

/-- What a grid point writes back of the scales. -/
theorem flushed_eq5 (c : Dev nD) (t : Fin cfg0.N) :
    (dats m 0 c).flushed 5 t = ((cfg0.win 5).blk t).view.read (Elt Ideal)
      (scalesW (V m c main_arg0) (V m c main_arg1) (V m c main_arg2) : Vec Ideal S34x1920x128 .f32) := by
  rw [Value.flushed5_A, out_eq5]
  obtain ⟨-, -, e50, e51, e52, -⟩ := idx_out t
  funext j
  have hj0 : (j 0).val < 1 := (j 0).isLt
  have hj1 : (j 1).val < 1920 := (j 1).isLt
  have hj2 : (j 2).val < 128 := (j 2).isLt
  have ht : (grid0.coords t 0).val < 34 := (grid0.coords t 0).isLt
  show scales (grid0.coords t) (iblk m c 0 t) (iblk m c 1 t) (iblk m c 2 t) (iblk m c 3 t) j
    = scalesW (V m c main_arg0) (V m c main_arg1) (V m c main_arg2) (((cfg0.win 5).blk t).view.emb j)
  have f0 : ((((cfg0.win 5).blk t).view.emb j) 0).val = (grid0.coords t 0).val := by
    show win0_5.index t (0 : Fin 3) * 1 + 1 * (j 0).val = _; omega
  have f1 : ((((cfg0.win 5).blk t).view.emb j) 1).val = (j 1).val := by
    show win0_5.index t (1 : Fin 3) * 1920 + 1 * (j 1).val = _; omega
  have f2 : ((((cfg0.win 5).blk t).view.emb j) 2).val = (j 2).val := by
    show win0_5.index t (2 : Fin 3) * 128 + 1 * (j 2).val = _; omega
  unfold scales scalesW
  by_cases h : (j 2).val < 2
  · rw [dif_pos h, dif_pos (f2.trans_lt h)]
    refine scl_eq m c t _ _ f1 ?_
    show ((((cfg0.win 5).blk t).view.emb j) 0).val * 256 + ((((cfg0.win 5).blk t).view.emb j) 2).val * 128
      = (grid0.coords t 0).val * 256 + (j 2).val * 128
    rw [f0, f2]
  · rw [dif_neg h, dif_neg (fun h' => h (f2.symm.trans_lt h'))]

/-- What a grid point writes back of the dequantised codes. -/
theorem flushed_eq6 (c : Dev nD) (t : Fin cfg0.N) :
    (dats m 0 c).flushed 6 t = ((cfg0.win 6).blk t).view.read (Elt Ideal)
      (deqW (V m c main_arg0) (V m c main_arg1) (V m c main_arg2) : Vec Ideal S1920x8704 .bf16) := by
  rw [Value.flushed6_A, out_eq6]
  obtain ⟨-, -, -, -, -, e60, e61⟩ := idx_out t
  funext j
  have f0 : ((((cfg0.win 6).blk t).view.emb j) 0).val = (j 0).val := by
    show win0_6.index t (0 : Fin 2) * 1920 + 1 * (j 0).val = _; omega
  have f1 : ((((cfg0.win 6).blk t).view.emb j) 1).val = (grid0.coords t 0).val * 256 + (j 1).val := by
    show win0_6.index t (1 : Fin 2) * 256 + 1 * (j 1).val = _; omega
  exact congrArg₂ (fun p q : EReal => p * q) (codes_eq m c t j _ f0 f1) (scl_eq m c t j _ f0 f1)

/-- Every grid column is some grid point's. -/
theorem point_of (q : ℕ) (hq : q < 34) : ∃ t : Fin cfg0.N, (grid0.coords t 0).val = q :=
  (by decide +kernel : ∀ q : Fin 34, ∃ t : Fin grid0.N, (grid0.coords t 0).val = q.val) ⟨q, hq⟩

/-- Every index of the codes is in some grid point's block. -/
theorem covered4 (i : S1920x8704.Idx) : ∃ t : Fin cfg0.N, (cfg0.win 4).flush t = true ∧ i ∈ ((cfg0.win 4).blk t).view.set := by
  have h0 : (i 0).val < 1920 := (i 0).isLt
  have h1 : (i 1).val < 8704 := (i 1).isLt
  obtain ⟨t, ht⟩ := point_of ((i 1).val / 256) (by omega)
  obtain ⟨e40, e41, -⟩ := idx_out t
  refine ⟨t, flush0_4 t, ?_⟩
  rw [View.set_slice_whole, Rect.mem_set_unit]
  intro a
  match a with
  | ⟨0, _⟩ =>
    show win0_4.index t (0 : Fin 2) * 1920 ≤ (i 0).val ∧ (i 0).val < win0_4.index t (0 : Fin 2) * 1920 + 1920
    omega
  | ⟨1, _⟩ =>
    show win0_4.index t (1 : Fin 2) * 256 ≤ (i 1).val ∧ (i 1).val < win0_4.index t (1 : Fin 2) * 256 + 256
    omega

/-- Every index of the scales is in some grid point's block. -/
theorem covered5 (i : S34x1920x128.Idx) : ∃ t : Fin cfg0.N, (cfg0.win 5).flush t = true ∧ i ∈ ((cfg0.win 5).blk t).view.set := by
  have h0 : (i 0).val < 34 := (i 0).isLt
  have h1 : (i 1).val < 1920 := (i 1).isLt
  have h2 : (i 2).val < 128 := (i 2).isLt
  obtain ⟨t, ht⟩ := point_of (i 0).val h0
  obtain ⟨-, -, e50, e51, e52, -⟩ := idx_out t
  refine ⟨t, flush0_5 t, ?_⟩
  rw [View.set_slice_whole, Rect.mem_set_unit]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 1920 ≤ (i 1).val ∧ (i 1).val < win0_5.index t (1 : Fin 3) * 1920 + 1920
    omega
  | ⟨2, _⟩ =>
    show win0_5.index t (2 : Fin 3) * 128 ≤ (i 2).val ∧ (i 2).val < win0_5.index t (2 : Fin 3) * 128 + 128
    omega

/-- Every index of the dequantised codes is in some grid point's block. -/
theorem covered6 (i : S1920x8704.Idx) : ∃ t : Fin cfg0.N, (cfg0.win 6).flush t = true ∧ i ∈ ((cfg0.win 6).blk t).view.set := by
  have h0 : (i 0).val < 1920 := (i 0).isLt
  have h1 : (i 1).val < 8704 := (i 1).isLt
  obtain ⟨t, ht⟩ := point_of ((i 1).val / 256) (by omega)
  obtain ⟨-, -, -, -, -, e60, e61⟩ := idx_out t
  refine ⟨t, flush0_6 t, ?_⟩
  rw [View.set_slice_whole, Rect.mem_set_unit]
  intro a
  match a with
  | ⟨0, _⟩ =>
    show win0_6.index t (0 : Fin 2) * 1920 ≤ (i 0).val ∧ (i 0).val < win0_6.index t (0 : Fin 2) * 1920 + 1920
    omega
  | ⟨1, _⟩ =>
    show win0_6.index t (1 : Fin 2) * 256 ≤ (i 1).val ∧ (i 1).val < win0_6.index t (1 : Fin 2) * 256 + 256
    omega

/-- The codes after the run. -/
theorem final4 (c : Dev nD) : (dats m 0 c).arrAt 4 cfg0.N
    = (codesW (m ((c : Thread nD τ).loc main_arg0)) (m ((c : Thread nD τ).loc main_arg1)) (m ((c : Thread nD τ).loc main_arg2)) : Vec Ideal S1920x8704 .fp8e4m3) :=
  ((dats m 0 c).arrAt_eq_of_cover 4 (codesW (V m c main_arg0) (V m c main_arg1) (V m c main_arg2) : Vec Ideal S1920x8704 .fp8e4m3)
    (fun t _ => flushed_eq4 m c t) covered4).trans (by rw [V_main_arg0, V_main_arg1, V_main_arg2])

/-- The scales after the run. -/
theorem final5 (c : Dev nD) : (dats m 0 c).arrAt 5 cfg0.N
    = (scalesW (m ((c : Thread nD τ).loc main_arg0)) (m ((c : Thread nD τ).loc main_arg1)) (m ((c : Thread nD τ).loc main_arg2)) : Vec Ideal S34x1920x128 .f32) :=
  ((dats m 0 c).arrAt_eq_of_cover 5 (scalesW (V m c main_arg0) (V m c main_arg1) (V m c main_arg2) : Vec Ideal S34x1920x128 .f32)
    (fun t _ => flushed_eq5 m c t) covered5).trans (by rw [V_main_arg0, V_main_arg1, V_main_arg2])

/-- The dequantised codes after the run. -/
theorem final6 (c : Dev nD) : (dats m 0 c).arrAt 6 cfg0.N
    = (deqW (m ((c : Thread nD τ).loc main_arg0)) (m ((c : Thread nD τ).loc main_arg1)) (m ((c : Thread nD τ).loc main_arg2)) : Vec Ideal S1920x8704 .bf16) :=
  ((dats m 0 c).arrAt_eq_of_cover 6 (deqW (V m c main_arg0) (V m c main_arg1) (V m c main_arg2) : Vec Ideal S1920x8704 .bf16)
    (fun t _ => flushed_eq6 m c t) covered6).trans (by rw [V_main_arg0, V_main_arg1, V_main_arg2])

end Cert.GateUpIdeal.Rows

end
-- ==== Proof.QuantRef.lean ====
module

public import proofs.«01_k».proof.Proof.Gated
public import Idealize.ShloMosaic.PureOps.Reduce
public import Idealize.ShloMosaic.Lib.Pointwise

/-! A matrix split into groups of 128 columns and quantised by groups, as the reference's whole-array operations write it,
read at an entry. -/

@[expose] public section

noncomputable section

namespace Cert.Quant

open Idealize.ShloMosaic Cert.Linear

variable {M G : ℕ}

/-- A minimum along one axis, read at an entry. -/
theorem min_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The thresholds of the groups, as array operations. -/
def thrR (v : FVec Ideal ⟨3, ![M, G, 128]⟩ .f32) (hr : (⟨3, ![M, G, 128]⟩ : Shape).Reduces [2] ⟨2, ![M, G]⟩)
    (hs : (⟨2, ![M, G]⟩ : Shape).ShapeCasts ⟨3, ![M, G, 1]⟩) : FVec Ideal ⟨3, ![M, G, 1]⟩ .f32 :=
  mulf (shapeCast ⟨3, ![M, G, 1]⟩ (multiReduction .maximumf [2] ⟨2, ![M, G]⟩ (absf v) 0xFF800000#32 hr (.inl rfl) rfl) hs)
    (broadcast ⟨3, ![M, G, 1]⟩ (Scalar.ofBits .f32 0x3B124925#32))

/-- The powers of two, as array operations. -/
def powR (hi : (⟨3, ![M, G, 252]⟩ : Shape).Iotas .tc 32 [2]) : FVec Ideal ⟨3, ![M, G, 252]⟩ .f32 :=
  exp2 (sitofp .f32 (subi (iota .tc ⟨3, ![M, G, 252]⟩ 32 [2] hi) (broadcast ⟨3, ![M, G, 252]⟩ 125#32)))

/-- The scales of the groups, as array operations. -/
def scaleR (T : FVec Ideal ⟨3, ![M, G, 1]⟩ .f32) (hi : (⟨3, ![M, G, 252]⟩ : Shape).Iotas .tc 32 [2])
    (hb : (⟨3, ![M, G, 1]⟩ : Shape).Broadcasts ⟨3, ![M, G, 252]⟩) (hr : (⟨3, ![M, G, 252]⟩ : Shape).Reduces [2] ⟨2, ![M, G]⟩)
    (hs : (⟨2, ![M, G]⟩ : Shape).ShapeCasts ⟨3, ![M, G, 1]⟩) : FVec Ideal ⟨3, ![M, G, 1]⟩ .f32 :=
  select (cmpf .olt T (broadcast ⟨3, ![M, G, 1]⟩ (Scalar.ofBits .f32 0x00800000#32)))
    (broadcast ⟨3, ![M, G, 1]⟩ (Scalar.ofBits .f32 0x3F800000#32))
    (shapeCast ⟨3, ![M, G, 1]⟩ (multiReduction .minimumf [2] ⟨2, ![M, G]⟩
      (select (cmpf .ogt (powR hi) (broadcastTo ⟨3, ![M, G, 252]⟩ T hb)) (powR hi)
        (broadcast ⟨3, ![M, G, 252]⟩ (Scalar.ofBits .f32 0x7E800000#32))) 0x7F800000#32 hr (.inl rfl) rfl) hs)

/-- The codes, as array operations. -/
def codeR (v : FVec Ideal ⟨3, ![M, G, 128]⟩ .f32) (S : FVec Ideal ⟨3, ![M, G, 1]⟩ .f32)
    (hb : (⟨3, ![M, G, 1]⟩ : Shape).Broadcasts ⟨3, ![M, G, 128]⟩) (hl : FTy.bits .fp8e4m3 < FTy.bits .f32) :
    FVec Ideal ⟨3, ![M, G, 128]⟩ .fp8e4m3 :=
  truncf .fp8e4m3 (minimumf (broadcast ⟨3, ![M, G, 128]⟩ (Scalar.ofBits .f32 0x43E00000#32))
    (maximumf (broadcast ⟨3, ![M, G, 128]⟩ (Scalar.ofBits .f32 0xC3E00000#32))
      (mulf v (broadcastTo ⟨3, ![M, G, 128]⟩ (divf (broadcast ⟨3, ![M, G, 1]⟩ (Scalar.ofBits .f32 0x3F800000#32)) S) hb)))) hl

/-- The row-major place of a group's one value. -/
theorem pos_one (r : Fin M) (g : Fin G) :
    ((⟨2, ![M, G]⟩ : Shape).rowMajor (ValueIdx.ix2 r g)).val = ((⟨3, ![M, G, 1]⟩ : Shape).rowMajor (ValueIdx.ix3 r g 0)).val := by
  rw [Shape.rowMajor_val_two, Shape.rowMajor_val_three]
  show r.val * G + g.val = (r.val * G + g.val) * 1 + 0
  omega

/-- The index of a group's place along the reduced axis. -/
theorem lift_group {n : ℕ} (h : (⟨3, ![M, G, n]⟩ : Shape).Reduces [2] ⟨2, ![M, G]⟩) (r : Fin M) (g : Fin G) (k : Fin n) :
    h.lift (ValueIdx.ix2 r g) k = ValueIdx.ix3 r g k := funext fun a => Fin.ext (by
  refine (Shape.Reduces.lift_val h _ _ a).trans ?_
  match a with
  | ⟨0, _⟩ => rfl
  | ⟨1, _⟩ => rfl
  | ⟨2, _⟩ => rfl)

/-- The thresholds at a group. -/
theorem thrR_apply (v : FVec Ideal ⟨3, ![M, G, 128]⟩ .f32) (hr : (⟨3, ![M, G, 128]⟩ : Shape).Reduces [2] ⟨2, ![M, G]⟩)
    (hs : (⟨2, ![M, G]⟩ : Shape).ShapeCasts ⟨3, ![M, G, 1]⟩) (r : Fin M) (g : Fin G) :
    thrR v hr hs (ValueIdx.ix3 r g 0) = thrOf fun k => v (ValueIdx.ix3 r g k) := by
  refine congrArg (· * pat 0x3B124925#32) ?_
  refine (shapeCast_apply _ hs (ValueIdx.ix3 r g 0) (ValueIdx.ix2 r g) (pos_one r g)).trans ?_
  refine (Ideal.multiReduction_maximumf_single _ _ hr _ _ _).trans ?_
  refine Finset.fold_congr fun k _ => ?_
  show max (v (hr.lift (ValueIdx.ix2 r g) k)) (-(v (hr.lift (ValueIdx.ix2 r g) k))) = _
  rw [lift_group hr r g k]

/-- One value for each group spread over the group's places. -/
theorem spread_group {n : ℕ} {φ : FTy} (x : FVec Ideal ⟨3, ![M, G, 1]⟩ φ) (hb : (⟨3, ![M, G, 1]⟩ : Shape).Broadcasts ⟨3, ![M, G, n]⟩)
    (r : Fin M) (g : Fin G) (k : Fin n) : broadcastTo ⟨3, ![M, G, n]⟩ x hb (ValueIdx.ix3 r g k) = x (ValueIdx.ix3 r g 0) := by
  have hr := r.isLt
  have hg := g.isLt
  refine broadcastTo_apply x hb _ _ fun a => ?_
  match a with
  | ⟨0, _⟩ => show r.val = if M = 1 then 0 else r.val; split <;> omega
  | ⟨1, _⟩ => show g.val = if G = 1 then 0 else g.val; split <;> omega
  | ⟨2, _⟩ => rfl

/-- The powers of two at a place. -/
theorem powR_apply (hi : (⟨3, ![M, G, 252]⟩ : Shape).Iotas .tc 32 [2]) (r : Fin M) (g : Fin G) (k : Fin 252) :
    powR hi (ValueIdx.ix3 r g k) = refPow k := by
  show Ideal.exp2 (((IntOp.subi (BitVec.ofNat 32 (0 * 252 + k.val)) 125#32).toInt : ℝ) : EReal) = refPow k
  rw [Nat.zero_mul, Nat.zero_add]
  rfl

/-- The scales at a group. -/
theorem scaleR_apply (T : FVec Ideal ⟨3, ![M, G, 1]⟩ .f32) (hi : (⟨3, ![M, G, 252]⟩ : Shape).Iotas .tc 32 [2])
    (hb : (⟨3, ![M, G, 1]⟩ : Shape).Broadcasts ⟨3, ![M, G, 252]⟩) (hr : (⟨3, ![M, G, 252]⟩ : Shape).Reduces [2] ⟨2, ![M, G]⟩)
    (hs : (⟨2, ![M, G]⟩ : Shape).ShapeCasts ⟨3, ![M, G, 1]⟩) (r : Fin M) (g : Fin G) :
    scaleR T hi hb hr hs (ValueIdx.ix3 r g 0) = scaleOf (T (ValueIdx.ix3 r g 0)) := by
  rw [← refScale_eq]
  unfold refScale
  refine congrArg (Scalar.select (Ideal.cmp .olt (T (ValueIdx.ix3 r g 0)) (pat 0x00800000#32)) (pat 0x3F800000#32)) ?_
  refine (shapeCast_apply _ hs (ValueIdx.ix3 r g 0) (ValueIdx.ix2 r g) (pos_one r g)).trans ?_
  refine (min_single _ _ hr _ _ _).trans ?_
  refine Finset.fold_congr fun k _ => ?_
  show Scalar.select (Ideal.cmp .ogt (powR hi (hr.lift (ValueIdx.ix2 r g) k)) (broadcastTo ⟨3, ![M, G, 252]⟩ T hb (hr.lift (ValueIdx.ix2 r g) k)))
    (powR hi (hr.lift (ValueIdx.ix2 r g) k)) (pat 0x7E800000#32) = _
  rw [lift_group hr r g k]
  exact congrArg₂ (fun p q => Scalar.select (Ideal.cmp .ogt p q) p (pat 0x7E800000#32)) (powR_apply hi r g k) (spread_group T hb r g k)

/-- The codes at a place. -/
theorem codeR_apply (v : FVec Ideal ⟨3, ![M, G, 128]⟩ .f32) (S : FVec Ideal ⟨3, ![M, G, 1]⟩ .f32)
    (hb : (⟨3, ![M, G, 1]⟩ : Shape).Broadcasts ⟨3, ![M, G, 128]⟩) (hl : FTy.bits .fp8e4m3 < FTy.bits .f32) (r : Fin M) (g : Fin G)
    (k : Fin 128) (q : Fin 128 → EReal) (hS : S (ValueIdx.ix3 r g 0) = scaleOf (thrOf q)) :
    codeR v S hb hl (ValueIdx.ix3 r g k) = code q (v (ValueIdx.ix3 r g k)) := by
  unfold code
  refine congrArg (fun p => clip (v (ValueIdx.ix3 r g k) * p)) ?_
  refine (spread_group _ hb r g k).trans ?_
  show Ideal.div (pat 0x3F800000#32) (S (ValueIdx.ix3 r g 0)) = _
  rw [hS, ← refScale_eq]
  exact refInv_eq _

/-- The dequantised codes at a place. -/
theorem deqR_apply (C : FVec Ideal ⟨3, ![M, G, 128]⟩ .fp8e4m3) (S : FVec Ideal ⟨3, ![M, G, 1]⟩ .f32)
    (hb : (⟨3, ![M, G, 1]⟩ : Shape).Broadcasts ⟨3, ![M, G, 128]⟩) (hl : FTy.bits .fp8e4m3 < FTy.bits .bf16)
    (hl' : FTy.bits .bf16 < FTy.bits .f32) (r : Fin M) (g : Fin G) (k : Fin 128) (p q : EReal)
    (hp : C (ValueIdx.ix3 r g k) = p) (hq : S (ValueIdx.ix3 r g 0) = q) :
    mulf (extf .bf16 C hl) (broadcastTo ⟨3, ![M, G, 128]⟩ (truncf .bf16 S hl') hb) (ValueIdx.ix3 r g k) = p * q :=
  congrArg₂ (fun p q : EReal => p * q) hp ((spread_group (φ := .bf16) (truncf .bf16 S hl') hb r g k).trans hq)

/-- The column of the matrix that a place in a group is. -/
abbrev colOf {N : ℕ} (hN : N = G * 128) (g : Fin G) (k : Fin 128) : Fin N := ⟨g.val * 128 + k.val, by
  have := g.isLt; have := k.isLt; omega⟩

/-- The row-major place of an entry, as one of a group. -/
theorem pos_eq {N : ℕ} (hN : N = G * 128) (r : Fin M) (g : Fin G) (k : Fin 128) :
    ((⟨2, ![M, N]⟩ : Shape).rowMajor (ValueIdx.ix2 r (colOf hN g k))).val
      = ((⟨3, ![M, G, 128]⟩ : Shape).rowMajor (ValueIdx.ix3 r g k)).val := by
  rw [Shape.rowMajor_val_two, Shape.rowMajor_val_three]
  show r.val * N + (g.val * 128 + k.val) = (r.val * G + g.val) * 128 + k.val
  rw [hN, Nat.add_mul, Nat.mul_assoc, Nat.add_assoc]

/-- An index of the matrix in the order of the groups. -/
theorem idx_split {N : ℕ} (hN : N = G * 128) (y : (⟨2, ![M, N]⟩ : Shape).Idx) :
    ∃ (r : Fin M) (g : Fin G) (k : Fin 128), y = ValueIdx.ix2 r (colOf hN g k) := by
  have h1 := ValueIdx.idx2_lt1 y
  refine ⟨y 0, ⟨(y 1).val / 128, by omega⟩, ⟨(y 1).val % 128, by omega⟩, funext fun a => Fin.ext ?_⟩
  match a with
  | ⟨0, _⟩ => rfl
  | ⟨1, _⟩ => show (y 1).val = (y 1).val / 128 * 128 + (y 1).val % 128; omega

/-- The group of an entry that is a group's place. -/
theorem group_place {N : ℕ} (hN : N = G * 128) (B : Mat M N) (r : Fin M) (g : Fin G) (k : Fin 128) :
    group hN B (ValueIdx.ix2 r (colOf hN g k)) = fun j => B (ValueIdx.ix2 r (colOf hN g j)) := funext fun j =>
  congrArg B (funext fun a => Fin.ext (by
    have hk := k.isLt
    match a with
    | ⟨0, _⟩ => rfl
    | ⟨1, _⟩ => show (g.val * 128 + k.val) / 128 * 128 + j.val = g.val * 128 + j.val; omega))

/-- The gated product of the two halves of a matrix, as array operations, in groups. -/
theorem halves_apply {N W : ℕ} (hW : W = N + N) (hN : N = G * 128) (B : FVec Ideal ⟨2, ![M, W]⟩ .f32)
    (h0 : (⟨2, ![M, W]⟩ : Shape).Slices ![0, 0] ⟨2, ![M, N]⟩) (h1 : (⟨2, ![M, W]⟩ : Shape).Slices ![0, N] ⟨2, ![M, N]⟩)
    (hs : (⟨2, ![M, N]⟩ : Shape).ShapeCasts ⟨3, ![M, G, 128]⟩) (r : Fin M) (g : Fin G) (k : Fin 128) :
    shapeCast ⟨3, ![M, G, 128]⟩ (mulf (mulf (extractStridedSlice ⟨2, ![M, N]⟩ ![0, 0] B h0)
        (logistic (extractStridedSlice ⟨2, ![M, N]⟩ ![0, 0] B h0))) (extractStridedSlice ⟨2, ![M, N]⟩ ![0, N] B h1)) hs (ValueIdx.ix3 r g k)
      = halves hW B (ValueIdx.ix2 r (colOf hN g k)) := by
  have hc := (colOf hN g k).isLt
  refine (shapeCast_apply _ hs (ValueIdx.ix3 r g k) (ValueIdx.ix2 r (colOf hN g k)) (pos_eq hN r g k)).trans ?_
  refine Eq.trans ?_ (act_eq _ _).symm
  refine congrArg₂ (fun a b => a * Ideal.logistic a * b) ?_ ?_
  · refine extractStridedSlice_apply (![0, 0] : Fin 2 → ℕ) B h0 (ValueIdx.ix2 r (colOf hN g k)) _ fun b => ?_
    match b with
    | ⟨0, _⟩ => show r.val = 0 + r.val; omega
    | ⟨1, _⟩ => show (colOf hN g k).val = 0 + (colOf hN g k).val; omega
  · refine extractStridedSlice_apply (![0, N] : Fin 2 → ℕ) B h1 (ValueIdx.ix2 r (colOf hN g k)) _ fun b => ?_
    match b with
    | ⟨0, _⟩ => show r.val = 0 + r.val; omega
    | ⟨1, _⟩ => rfl

/-- The scales of pairs of groups side by side: the group a lane of a pair is. -/
theorem pairs_apply {P : ℕ} (hG : G = P * 2) (S : FVec Ideal ⟨3, ![M, G, 1]⟩ .f32)
    (h1 : (⟨3, ![M, G, 1]⟩ : Shape).ShapeCasts ⟨2, ![M, G]⟩) (h2 : (⟨2, ![M, G]⟩ : Shape).ShapeCasts ⟨3, ![M, P, 2]⟩)
    (h3 : (⟨3, ![M, P, 2]⟩ : Shape).Transposes [1, 0, 2] ⟨3, ![P, M, 2]⟩) (p : Fin P) (r : Fin M) (l : Fin 2) :
    transpose ⟨3, ![P, M, 2]⟩ [1, 0, 2] (shapeCast ⟨3, ![M, P, 2]⟩ (shapeCast ⟨2, ![M, G]⟩ S h1) h2) h3 (ValueIdx.ix3 p r l)
      = S (ValueIdx.ix3 r ⟨p.val * 2 + l.val, by have := p.isLt; have := l.isLt; omega⟩ 0) := by
  refine (transpose_apply _ _ h3 _ (ValueIdx.ix3 r p l) fun b => ?_).trans ?_
  · match b with
    | ⟨0, _⟩ => rfl
    | ⟨1, _⟩ => rfl
    | ⟨2, _⟩ => rfl
  refine (shapeCast_apply _ h2 _ (ValueIdx.ix2 r ⟨p.val * 2 + l.val, by have := p.isLt; have := l.isLt; omega⟩) ?_).trans
    (shapeCast_apply _ h1 _ _ (pos_one r _).symm)
  rw [Shape.rowMajor_val_two, Shape.rowMajor_val_three]
  show r.val * G + (p.val * 2 + l.val) = (r.val * P + p.val) * 2 + l.val
  rw [hG, Nat.add_mul, Nat.mul_assoc, Nat.add_assoc]

end Cert.Quant

end
-- ==== Proof.GateUpRef.lean ====
module

public import proofs.«01_k».proof.Proof.Gen.GateUpRefIdeal.Value
public import proofs.«01_k».proof.Proof.QuantRef

/-! The gate and up projections: what the reference computes, entry by entry. -/

@[expose] public section

set_option maxRecDepth 16384

noncomputable section

namespace Cert.GateUpRefIdeal.Rows

open Cert.GateUpRefIdeal Cert.GateUpRefIdeal.Gen Idealize.ShloMosaic
open Cert.Linear Cert.Quant

/-- The reference's product with the dequantised weight. -/
theorem dot_eq (v0 : Vec Ideal S1920x5120 .bf16) (v1 : Vec Ideal S5120x17408 .fp8e4m3) (v2 : Vec Ideal S40x136 .f32) :
    matmul (F := Ideal) (φ₁ := .bf16) (φ₂ := .bf16) dot_S1920x5120_S5120x17408_S1920x17408_1_0_0_1_n_n none v0
      (mulf (extf .bf16 v1 bitsLt_fp8e4m3_bf16) (shapeCast S5120x17408 (broadcastTo S40x128x136x128
        (shapeCast S40x1x136x1 (shapeCast S40x1x136x1 (truncf .bf16 v2 bitsLt_bf16_f32) shapeCasts_S40x136_S40x1x136x1) shapeCasts_S40x1x136x1_S40x1x136x1)
        broadcasts_S40x1x136x1_S40x128x136x128) shapeCasts_S40x128x136x128_S5120x17408)) (constant S1920x17408 .f32 0x00000000#32)
      = (dot (M := 1920) (K := 5120) (N := 17408) v0 (deq (KB := 40) (NB := 136) rfl rfl v1 v2) : FVec Ideal S1920x17408 .f32) := by
  funext y
  refine (matmul_zero (M := 1920) (K := 5120) (N := 17408) none v0 _ y).trans ?_
  refine Finset.sum_congr rfl fun k _ => congrArg₂ (· * ·) rfl (congrArg₂ (· * ·) rfl ?_)
  exact spread_apply (K := 5120) (N := 17408) (KB := 40) (NB := 136) rfl rfl v2 _ _ _ _ _

/-- The gated product, in groups. -/
theorem pay5_apply (v0 : Vec Ideal S1920x5120 .bf16) (v1 : Vec Ideal S5120x17408 .fp8e4m3) (v2 : Vec Ideal S40x136 .f32)
    (r : Fin 1920) (g : Fin 68) (k : Fin 128) :
    k0_pay5 (F := Ideal) v0 v1 v2 (ValueIdx.ix3 r g k) = midW v0 v1 v2 (ValueIdx.ix2 r (colOf (G := 68) (N := 8704) rfl g k)) := by
  unfold k0_pay5
  rw [dot_eq]
  exact halves_apply (M := 1920) (G := 68) (N := 8704) (W := 17408) rfl rfl _ _ _ _ r g k

/-- The scales, as array operations. -/
theorem pay6_eq (v0 : Vec Ideal S1920x5120 .bf16) (v1 : Vec Ideal S5120x17408 .fp8e4m3) (v2 : Vec Ideal S40x136 .f32) :
    k0_pay6 (F := Ideal) v0 v1 v2 = scaleR (M := 1920) (G := 68) (thrR (M := 1920) (G := 68) (k0_pay5 (F := Ideal) v0 v1 v2)
      reduces_S1920x68x128_S1920x68 shapeCasts_S1920x68_S1920x68x1) iota_S1920x68x252_d2_w32 broadcasts_S1920x68x1_S1920x68x252
      reduces_S1920x68x252_S1920x68 shapeCasts_S1920x68_S1920x68x1 := by
  unfold k0_pay6 scaleR thrR powR
  rfl

/-- The codes, as array operations. -/
theorem pay1_eq (v0 : Vec Ideal S1920x5120 .bf16) (v1 : Vec Ideal S5120x17408 .fp8e4m3) (v2 : Vec Ideal S40x136 .f32) :
    k0_pay1 (F := Ideal) (Scalar.ofBits .f32 0x43E00000#32) (k0_pay7 (F := Ideal) v0 v1 v2)
      = codeR (M := 1920) (G := 68) (k0_pay5 (F := Ideal) v0 v1 v2) (k0_pay6 (F := Ideal) v0 v1 v2) broadcasts_S1920x68x1_S1920x68x128
        bitsLt_fp8e4m3_f32 := by
  unfold k0_pay1 k0_pay7 codeR
  rfl

/-- The reference's scale of a group. -/
theorem scale_eq (v0 : Vec Ideal S1920x5120 .bf16) (v1 : Vec Ideal S5120x17408 .fp8e4m3) (v2 : Vec Ideal S40x136 .f32)
    (r : Fin 1920) (g : Fin 68) (k : Fin 128) :
    k0_pay6 (F := Ideal) v0 v1 v2 (ValueIdx.ix3 r g 0) = sclW v0 v1 v2 (ValueIdx.ix2 r (colOf (G := 68) (N := 8704) rfl g k)) := by
  rw [pay6_eq]
  refine (scaleR_apply (M := 1920) (G := 68) _ _ _ _ _ r g).trans (congrArg scaleOf ((thrR_apply (M := 1920) (G := 68) _ _ _ r g).trans
    (congrArg thrOf ?_)))
  rw [group_place (M := 1920) (G := 68) (N := 8704) rfl (midW v0 v1 v2) r g k]
  exact funext fun j => pay5_apply v0 v1 v2 r g j

/-- The reference's code of an entry. -/
theorem code_eq (v0 : Vec Ideal S1920x5120 .bf16) (v1 : Vec Ideal S5120x17408 .fp8e4m3) (v2 : Vec Ideal S40x136 .f32)
    (r : Fin 1920) (g : Fin 68) (k : Fin 128) :
    k0_pay1 (F := Ideal) (Scalar.ofBits .f32 0x43E00000#32) (k0_pay7 (F := Ideal) v0 v1 v2) (ValueIdx.ix3 r g k)
      = codesW v0 v1 v2 (ValueIdx.ix2 r (colOf (G := 68) (N := 8704) rfl g k)) := by
  rw [pay1_eq]
  refine (codeR_apply (M := 1920) (G := 68) _ _ _ _ r g k _ (scale_eq v0 v1 v2 r g k)).trans ?_
  exact congrArg (code _) (pay5_apply v0 v1 v2 r g k)

theorem pay8_eq (a0 : Vec Ideal S1920x5120 .bf16) (a1 : Vec Ideal S5120x17408 .fp8e4m3) (a2 : Vec Ideal S40x136 .f32) :
    k0_pay8 (F := Ideal) a0 a1 a2 = k0_pay6 (F := Ideal) a0 a1 a2 := by
  unfold k0_pay8
  rw [View.ld_unit_zero Value.hz0, View.ld_unit_zero Value.hz0, View.ld_unit_zero Value.hz0]

theorem pay9_eq (a0 : Vec Ideal S1920x5120 .bf16) (a1 : Vec Ideal S5120x17408 .fp8e4m3) (a2 : Vec Ideal S40x136 .f32) :
    k0_pay9 (F := Ideal) a0 a1 a2 = k0_pay7 (F := Ideal) a0 a1 a2 := by
  unfold k0_pay9
  rw [View.ld_unit_zero Value.hz0, View.ld_unit_zero Value.hz0, View.ld_unit_zero Value.hz0]

/-- The reference's codes. -/
theorem ref3 (a0 : Vec Ideal S1920x5120 .bf16) (a1 : Vec Ideal S5120x17408 .fp8e4m3) (a2 : Vec Ideal S40x136 .f32) :
    Value.G3 (F := Ideal) a0 a1 a2 = (codesW a0 a1 a2 : Vec Ideal S1920x8704 .fp8e4m3) := by
  funext y
  obtain ⟨r, g, k, rfl⟩ := idx_split (M := 1920) (G := 68) (N := 8704) rfl y
  unfold Value.G3
  rw [pay9_eq]
  unfold k0_pay2
  exact (shapeCast_apply _ _ _ (ValueIdx.ix3 r g k) (pos_eq (M := 1920) (G := 68) (N := 8704) rfl r g k).symm).trans (code_eq a0 a1 a2 r g k)

/-- The reference's dequantised codes. -/
theorem ref5 (a0 : Vec Ideal S1920x5120 .bf16) (a1 : Vec Ideal S5120x17408 .fp8e4m3) (a2 : Vec Ideal S40x136 .f32) :
    Value.G5 (F := Ideal) a0 a1 a2 = ((fun y => codesW a0 a1 a2 y * sclW a0 a1 a2 y) : Vec Ideal S1920x8704 .bf16) := by
  funext y
  obtain ⟨r, g, k, rfl⟩ := idx_split (M := 1920) (G := 68) (N := 8704) rfl y
  unfold Value.G5
  rw [pay9_eq, pay8_eq]
  unfold k0_pay3
  refine (shapeCast_apply _ _ _ (ValueIdx.ix3 r g k) (pos_eq (M := 1920) (G := 68) (N := 8704) rfl r g k).symm).trans ?_
  exact deqR_apply (M := 1920) (G := 68) _ _ _ _ _ r g k _ _ (code_eq a0 a1 a2 r g k) (scale_eq a0 a1 a2 r g k)

/-- The reference's scales. -/
theorem ref4 (a0 : Vec Ideal S1920x5120 .bf16) (a1 : Vec Ideal S5120x17408 .fp8e4m3) (a2 : Vec Ideal S40x136 .f32) :
    Value.G4 (F := Ideal) a0 a1 a2 = (scalesW a0 a1 a2 : Vec Ideal S34x1920x128 .f32) := by
  funext y
  have h0 : (y 0).val < 34 := (y 0).isLt
  have h1 : (y 1).val < 1920 := (y 1).isLt
  have h2 : (y 2).val < 128 := (y 2).isLt
  unfold Value.G4
  rw [pay8_eq]
  unfold k0_pay4 scalesW
  by_cases h : (y 2).val < 2
  · rw [dif_pos h]
    refine (concatenate_pair_apply_left (t := S34x1920x128) (s₁ := S34x1920x2) (s₂ := S34x1920x126) (2 : Fin 3) _ _ _ y rfl
      (ValueIdx.ix3 ⟨(y 0).val, h0⟩ ⟨(y 1).val, h1⟩ ⟨(y 2).val, h⟩) fun b => ?_).trans ?_
    · match b with
      | ⟨0, _⟩ => rfl
      | ⟨1, _⟩ => rfl
      | ⟨2, _⟩ => rfl
    refine (pairs_apply (M := 1920) (G := 68) (P := 34) rfl _ _ _ _ _ _ _).trans ?_
    refine (scale_eq a0 a1 a2 _ _ 0).trans (congrArg (sclW a0 a1 a2) (funext fun a => Fin.ext ?_))
    match a with
    | ⟨0, _⟩ => rfl
    | ⟨1, _⟩ => show ((y 0).val * 2 + (y 2).val) * 128 + 0 = (y 0).val * 256 + (y 2).val * 128; omega
  · rw [dif_neg h]
    refine (concatenate_pair_apply_right (t := S34x1920x128) (s₁ := S34x1920x2) (s₂ := S34x1920x126) (2 : Fin 3) _ _ _ y rfl rfl
      (ValueIdx.ix3 ⟨(y 0).val, h0⟩ ⟨(y 1).val, h1⟩ ⟨(y 2).val - 2, by omega⟩) (fun b hb => ?_) ?_).trans ?_
    · match b with
      | ⟨0, _⟩ => rfl
      | ⟨1, _⟩ => rfl
      | ⟨2, _⟩ => exact absurd rfl hb
    · show (y 2).val - 2 + 2 = (y 2).val
      omega
    · show (((0#32 : BitVec 32).toInt : ℝ) : EReal) = 0
      norm_num

end Cert.GateUpRefIdeal.Rows

end
-- ==== Proof.lean ====
module

public import proofs.«01_k».proof.Defs
public import proofs.«01_k».proof.Proof.Gen.Down.Frame
public import proofs.«01_k».proof.Proof.DownValue
public import proofs.«01_k».proof.Proof.Gen.Out.Frame
public import proofs.«01_k».proof.Proof.OutValue
public import proofs.«01_k».proof.Proof.Gen.GateUp.Frame
public import proofs.«01_k».proof.Proof.GateUpValue
public import proofs.«01_k».proof.Proof.GateUpRef

/-! The certificate: the claims about each linear layer, put together. -/

@[expose] public section

namespace Cert.Proof

open Idealize.ShloMosaic Idealize.SL Idealize.SL.Sem

/-- At exact arithmetic the down projection's kernel and its reference both run, and end with the same result and with their
arguments unchanged. -/
theorem agreeDown : Cert.algebraic_DownIdeal_DownRefIdeal (hDownIdeal := Cert.DownIdeal.Gen.facts)
    (hDownRefIdeal := Cert.DownRefIdeal.Gen.facts) := by
  letI := Cert.DownIdeal.Gen.facts; letI := Cert.DownRefIdeal.Gen.facts
  intro m g m' g' _ hag
  refine ⟨fun c => Cert.DownIdeal.Rows.G (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)),
    ?_, ?_⟩
  · exact (θ_run _ _ _).mono (fun r h c => ⟨(h c).1.trans (Cert.DownIdeal.Rows.final m c), (h c).2⟩)
      (Cert.DownIdeal.Value.run_blocks m g)
  · refine (θ_run _ _ _).mono (fun r h c => ?_) (Cert.DownRefIdeal.Value.run m' g')
    obtain ⟨e0, e1, e2, e3⟩ := hag c
    refine ⟨(h c).1.trans ?_, (h c).2⟩
    · exact (Cert.DownIdeal.Rows.ref_eq _ _ _ _).trans
        (congr (congr (congr (congrArg Cert.DownIdeal.Rows.G e0) e1) e2) e3)

/-- At exact arithmetic the output projection's kernel and its reference both run, and end with the same result and with their
arguments unchanged. -/
theorem agreeOut : Cert.algebraic_OutIdeal_OutRefIdeal (hOutIdeal := Cert.OutIdeal.Gen.facts)
    (hOutRefIdeal := Cert.OutRefIdeal.Gen.facts) := by
  letI := Cert.OutIdeal.Gen.facts; letI := Cert.OutRefIdeal.Gen.facts
  intro m g m' g' _ hag
  refine ⟨fun c => Cert.OutIdeal.Rows.G (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)),
    ?_, ?_⟩
  · exact (θ_run _ _ _).mono (fun r h c => ⟨(h c).1.trans (Cert.OutIdeal.Rows.final m c), (h c).2⟩)
      (Cert.OutIdeal.Value.run_blocks m g)
  · refine (θ_run _ _ _).mono (fun r h c => ?_) (Cert.OutRefIdeal.Value.run m' g')
    obtain ⟨e0, e1, e2, e3⟩ := hag c
    refine ⟨(h c).1.trans ?_, (h c).2⟩
    · exact (Cert.OutIdeal.Rows.ref_eq _ _ _ _).trans
        (congr (congr (congr (congrArg Cert.OutIdeal.Rows.G e0) e1) e2) e3)

/-- At exact arithmetic the gate and up projections' kernel and its reference both run, and end with the same codes, scales and
dequantised codes and with their arguments unchanged. -/
theorem agreeGateUp : Cert.algebraic_GateUpIdeal_GateUpRefIdeal (hGateUpIdeal := Cert.GateUpIdeal.Gen.facts)
    (hGateUpRefIdeal := Cert.GateUpRefIdeal.Gen.facts) := by
  letI := Cert.GateUpIdeal.Gen.facts; letI := Cert.GateUpRefIdeal.Gen.facts
  intro m g m' g' _ hag
  refine ⟨fun c => Cert.Quant.codesW (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)),
    fun c => Cert.Quant.scalesW (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)),
    fun c => Cert.GateUpIdeal.Rows.deqW (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)),
    ?_, ?_⟩
  · exact (θ_run _ _ _).mono (fun r h c => ⟨(h c).1.trans (Cert.GateUpIdeal.Rows.final4 m c),
      (h c).2.1.trans (Cert.GateUpIdeal.Rows.final5 m c), (h c).2.2.1.trans (Cert.GateUpIdeal.Rows.final6 m c), (h c).2.2.2⟩)
      (Cert.GateUpIdeal.Value.run_blocks m g)
  · refine (θ_run _ _ _).mono (fun r h c => ?_) (Cert.GateUpRefIdeal.Value.run m' g')
    obtain ⟨e0, e1, e2⟩ := hag c
    refine ⟨(h c).1.trans ?_, (h c).2.1.trans ?_, (h c).2.2.1.trans ?_, (h c).2.2.2⟩
    · exact (Cert.GateUpRefIdeal.Rows.ref3 _ _ _).trans (congr (congr (congrArg Cert.Quant.codesW e0) e1) e2)
    · exact (Cert.GateUpRefIdeal.Rows.ref4 _ _ _).trans (congr (congr (congrArg Cert.Quant.scalesW e0) e1) e2)
    · exact (Cert.GateUpRefIdeal.Rows.ref5 _ _ _).trans (congr (congr (congrArg Cert.GateUpIdeal.Rows.deqW e0) e1) e2)

/-- All the claims. -/
theorem claim : Cert.Claim := by
  exact ⟨Cert.Down.Gen.facts, Cert.DownIdeal.Gen.facts, Cert.DownRefIdeal.Gen.facts, Cert.Out.Gen.facts, Cert.OutIdeal.Gen.facts, Cert.OutRefIdeal.Gen.facts,
    Cert.GateUp.Gen.facts, Cert.GateUpIdeal.Gen.facts, Cert.GateUpRefIdeal.Gen.facts,
    fun m g _ => Cert.Down.Gen.frame m g,
    fun m g _ => Cert.DownIdeal.Gen.frame m g,
    fun m g _ => Cert.DownRefIdeal.Gen.frame m g,
    fun m g _ => Cert.Out.Gen.frame m g,
    fun m g _ => Cert.OutIdeal.Gen.frame m g,
    fun m g _ => Cert.OutRefIdeal.Gen.frame m g,
    fun m g _ => Cert.GateUp.Gen.frame m g,
    fun m g _ => Cert.GateUpIdeal.Gen.frame m g,
    fun m g _ => Cert.GateUpRefIdeal.Gen.frame m g,
    trivial, agreeDown, trivial, agreeOut, trivial, agreeGateUp⟩

end Cert.Proof

end
